-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_reads_back [hPre_reads_back : Cert.Pre_reads_back.Facts] (m : (ℓ : Loc Cert.KernelIdeal.nD Cert.KernelIdeal.τ Cert.KernelIdeal.sig) → Buf (Elt Ideal) ℓ) : Prop :=
  ∀ c : Dev Cert.KernelIdeal.nD,
    (Cert.Pre_reads_back.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_reads_back [hPre_reads_back : Cert.Pre_reads_back.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_reads_back.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InOrderIdeal [hPre_in_range : Cert.Pre_in_range.Facts] (m : (ℓ : Loc Cert.InOrderIdeal.nD Cert.InOrderIdeal.τ Cert.InOrderIdeal.sig) → Buf (Elt Ideal) ℓ) : Prop :=
  ∀ c : Dev Cert.InOrderIdeal.nD,
    (Cert.Pre_in_range.fn (F := Ideal) (m ((c.tc : Thread Cert.InOrderIdeal.nD Cert.InOrderIdeal.τ).loc Cert.InOrderIdeal.main_arg0)) (m ((c.tc : Thread Cert.InOrderIdeal.nD Cert.InOrderIdeal.τ).loc Cert.InOrderIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_reads_back [hKernelIdeal : Cert.KernelIdeal.Facts] [hPre_reads_back : Cert.Pre_reads_back.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_reads_back m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_reads_back [hReferenceIdeal : Cert.ReferenceIdeal.Facts] [hPre_reads_back : Cert.Pre_reads_back.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_reads_back m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InOrderIdeal [hInOrderIdeal : Cert.InOrderIdeal.Facts] [hPre_in_range : Cert.Pre_in_range.Facts] : Prop :=
  ∀ (m : (ℓ : Loc Cert.InOrderIdeal.nD Cert.InOrderIdeal.τ Cert.InOrderIdeal.sig) → Buf (Elt Ideal) ℓ) (g : Dev Cert.InOrderIdeal.nD → PrngReg), Pre_InOrderIdeal m →
    θ_run (Cert.InOrderIdeal.defs (F := Ideal)) (onTc (τ := Cert.InOrderIdeal.τ) (Cert.InOrderIdeal.main (F := Ideal))) ⟨m, fun _ => 0, g⟩ (fun r => (∀ c : Dev Cert.InOrderIdeal.nD,
      r.2.mem ((c.tc : Thread Cert.InOrderIdeal.nD Cert.InOrderIdeal.τ).loc Cert.InOrderIdeal.main_arg0) = m ((c.tc : Thread Cert.InOrderIdeal.nD Cert.InOrderIdeal.τ).loc Cert.InOrderIdeal.main_arg0)
      ∧ r.2.mem ((c.tc : Thread Cert.InOrderIdeal.nD Cert.InOrderIdeal.τ).loc Cert.InOrderIdeal.main_arg1) = m ((c.tc : Thread Cert.InOrderIdeal.nD Cert.InOrderIdeal.τ).loc Cert.InOrderIdeal.main_arg1))
      ∧ r.2.sem = fun _ => 0)

def preserves_Kernel_KernelIdeal : Prop :=
  True

def algebraic_KernelIdeal_InOrderIdeal [hKernelIdeal : Cert.KernelIdeal.Facts] [hInOrderIdeal : Cert.InOrderIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.InOrderIdeal.nD Cert.InOrderIdeal.τ Cert.InOrderIdeal.sig) → Buf (Elt Ideal) ℓ) (g' : Dev Cert.InOrderIdeal.nD → PrngReg), Pre_KernelIdeal m →
    (∀ c : Dev Cert.KernelIdeal.nD,
      m' ((c.tc : Thread Cert.InOrderIdeal.nD Cert.InOrderIdeal.τ).loc Cert.InOrderIdeal.main_arg0) = m ((c.tc : Thread Cert.KernelIdeal.nD Cert.KernelIdeal.τ).loc Cert.KernelIdeal.main_arg0)
      ∧ m' ((c.tc : Thread Cert.InOrderIdeal.nD Cert.InOrderIdeal.τ).loc Cert.InOrderIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.InOrderIdeal.defs (F := Ideal)) (onTc (τ := Cert.InOrderIdeal.τ) (Cert.InOrderIdeal.main (F := Ideal))) ⟨m', fun _ => 0, g'⟩ (fun r => ∀ c : Dev Cert.InOrderIdeal.nD,
          r.2.mem ((c.tc : Thread Cert.InOrderIdeal.nD Cert.InOrderIdeal.τ).loc Cert.InOrderIdeal.main_v18) = v0 c
          ∧ r.2.mem ((c.tc : Thread Cert.InOrderIdeal.nD Cert.InOrderIdeal.τ).loc Cert.InOrderIdeal.main_arg0) = m' ((c.tc : Thread Cert.InOrderIdeal.nD Cert.InOrderIdeal.τ).loc Cert.InOrderIdeal.main_arg0)
          ∧ r.2.mem ((c.tc : Thread Cert.InOrderIdeal.nD Cert.InOrderIdeal.τ).loc Cert.InOrderIdeal.main_arg1) = m' ((c.tc : Thread Cert.InOrderIdeal.nD Cert.InOrderIdeal.τ).loc Cert.InOrderIdeal.main_arg1))

def algebraic_KernelIdeal_ReferenceIdeal_pre_reads_back [hKernelIdeal : Cert.KernelIdeal.Facts] [hReferenceIdeal : Cert.ReferenceIdeal.Facts] [hPre_reads_back : Cert.Pre_reads_back.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_reads_back m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hInOrderIdeal : Cert.InOrderIdeal.Facts) (hPre_in_range : Cert.Pre_in_range.Facts) (hPre_reads_back : Cert.Pre_reads_back.Facts),
    quiescent_Kernel (hKernel := hKernel) (hPre_in_range := hPre_in_range)
    ∧ quiescent_KernelIdeal (hKernelIdeal := hKernelIdeal) (hPre_in_range := hPre_in_range)
    ∧ quiescent_KernelIdeal_pre_reads_back (hKernelIdeal := hKernelIdeal) (hPre_reads_back := hPre_reads_back)
    ∧ quiescent_ReferenceIdeal (hReferenceIdeal := hReferenceIdeal)
    ∧ quiescent_ReferenceIdeal_pre_reads_back (hReferenceIdeal := hReferenceIdeal) (hPre_reads_back := hPre_reads_back)
    ∧ quiescent_InOrderIdeal (hInOrderIdeal := hInOrderIdeal) (hPre_in_range := hPre_in_range)
    ∧ preserves_Kernel_KernelIdeal
    ∧ algebraic_KernelIdeal_InOrderIdeal (hKernelIdeal := hKernelIdeal) (hInOrderIdeal := hInOrderIdeal) (hPre_in_range := hPre_in_range)
    ∧ algebraic_KernelIdeal_ReferenceIdeal_pre_reads_back (hKernelIdeal := hKernelIdeal) (hReferenceIdeal := hReferenceIdeal) (hPre_reads_back := hPre_reads_back)
-- ==== Pre_in_range.lean ====
abbrev S2x768x112x112 : Shape := ⟨4, ![2, 768, 112, 112]⟩
abbrev S_ : Shape := ⟨0, ![]⟩

class Facts : Prop where
  bcast_S_S2x768x112x112 : S_.BroadcastsInDim S2x768x112x112 (![] : Fin 0 → Fin S2x768x112x112.rank)
  reducesTo_S2x768x112x112_S_d0_1_2_3 : S2x768x112x112.ReducesTo [0, 1, 2, 3] S_
  h_S_ : 0 < S_.numel

variable [Facts]

def fn {F : FTy → Type} [FloatOps F] (main_arg0 : FVec F S2x768x112x112 .f32) (main_arg1 : IVec S2x768x112x112 32) : IVec S_ 1 :=
  let main_c : IVec S_ 32 := constantI S_ 32 0#32
  let main_v0 : IVec S2x768x112x112 32 := broadcastInDim S2x768x112x112 ![] bcast_S_S2x768x112x112 main_c
  let main_v1 : IVec S2x768x112x112 1 := cmpi .sge main_arg1 main_v0
  let main_c_0 : IVec S_ 32 := constantI S_ 32 50176#32
  let main_v2 : IVec S2x768x112x112 32 := broadcastInDim S2x768x112x112 ![] bcast_S_S2x768x112x112 main_c_0
  let main_v3 : IVec S2x768x112x112 1 := cmpi .slt main_arg1 main_v2
  let main_v4 : IVec S2x768x112x112 1 := andi main_v1 main_v3
  let main_c_1 : IVec S_ 1 := constantI S_ 1 1#1
  let main_v5 : IVec S_ 1 := (fun x v => Host.reduce IntOp.andi x v reducesTo_S2x768x112x112_S_d0_1_2_3 h_S_) main_v4 main_c_1
  main_v5
-- ==== Pre_reads_back.lean ====
abbrev S2x768x112x112 : Shape := ⟨4, ![2, 768, 112, 112]⟩
abbrev S1536x12544 : Shape := ⟨2, ![1536, 12544]⟩
abbrev S1536 : Shape := ⟨1, ![1536]⟩
abbrev S1536x1 : Shape := ⟨2, ![1536, 1]⟩
abbrev S_ : Shape := ⟨0, ![]⟩
abbrev S1536x50176 : Shape := ⟨2, ![1536, 50176]⟩
abbrev S1536x12544x1 : Shape := ⟨3, ![1536, 12544, 1]⟩
abbrev S1536x12544x2 : Shape := ⟨3, ![1536, 12544, 2]⟩
abbrev S2x768x224x224 : Shape := ⟨4, ![2, 768, 224, 224]⟩

class Facts : Prop where
  shapeCasts_S2x768x112x112_S1536x12544 : S2x768x112x112.ShapeCasts S1536x12544
  bcast_S1536_S1536x1_0 : S1536.BroadcastsInDim S1536x1 (![0] : Fin 1 → Fin S1536x1.rank)
  bcast_S_S1536x50176 : S_.BroadcastsInDim S1536x50176 (![] : Fin 0 → Fin S1536x50176.rank)
  bcast_S_S1536x1 : S_.BroadcastsInDim S1536x1 (![] : Fin 0 → Fin S1536x1.rank)
  bcast_S_S1536x12544 : S_.BroadcastsInDim S1536x12544 (![] : Fin 0 → Fin S1536x12544.rank)
  bcast_S1536x1_S1536x12544_0_1 : S1536x1.BroadcastsInDim S1536x12544 (![0, 1] : Fin 2 → Fin S1536x12544.rank)
  bcast_S1536x12544_S1536x12544x1_0_1 : S1536x12544.BroadcastsInDim S1536x12544x1 (![0, 1] : Fin 2 → Fin S1536x12544x1.rank)
  concatenates_S1536x12544x1_S1536x12544x1_S1536x12544x2_d2 : Shape.Concatenates [S1536x12544x1, S1536x12544x1] S1536x12544x2 2
  shapeCasts_S1536x50176_S2x768x224x224 : S1536x50176.ShapeCasts S2x768x224x224
  shapeCasts_S2x768x224x224_S1536x50176 : S2x768x224x224.ShapeCasts S1536x50176
  bcast_S_S2x768x112x112 : S_.BroadcastsInDim S2x768x112x112 (![] : Fin 0 → Fin S2x768x112x112.rank)
  reducesTo_S2x768x112x112_S_d0_1_2_3 : S2x768x112x112.ReducesTo [0, 1, 2, 3] S_
  h_S_ : 0 < S_.numel
  reducesTo_S1536x12544_S_d0_1 : S1536x12544.ReducesTo [0, 1] S_
  scatter_S1536x50176_S1536x12544x2_S1536x12544_n_01_01_2_wf : ScatterDims.WF S1536x50176 S1536x12544x2 S1536x12544 [] [0, 1] [0, 1] 2
  gather_S1536x50176_S1536x12544x2_S1536x12544_n_01_n_n_01_2_11_wf : GatherDims.WF S1536x50176 S1536x12544x2 S1536x12544 [] [0, 1] [] [0, 1] [] 2 ![1, 1]

variable [Facts]

def scatter_S1536x50176_S1536x12544x2_S1536x12544_n_01_01_2 : ScatterDims S1536x50176 S1536x12544x2 S1536x12544 where
  updateWindowDims := []
  insertedWindowDims := [0, 1]
  scatterDimsToOperandDims := [0, 1]
  indexVectorDim := 2
  wf := scatter_S1536x50176_S1536x12544x2_S1536x12544_n_01_01_2_wf
def gather_S1536x50176_S1536x12544x2_S1536x12544_n_01_n_n_01_2_11 : GatherDims S1536x50176 S1536x12544x2 S1536x12544 where
  offsetDims := []
  collapsedSliceDims := [0, 1]
  operandBatchingDims := []
  startIndicesBatchingDims := []
  startIndexMap := [0, 1]
  indexVectorDim := 2
  sliceSizes := ![1, 1]
  wf := gather_S1536x50176_S1536x12544x2_S1536x12544_n_01_n_n_01_2_11_wf
def fn_part2 {F : FTy → Type} [FloatOps F] (main_arg0 : FVec F S2x768x112x112 .f32) (main_arg1 : IVec S2x768x112x112 32) (main_v21 : FVec F S1536x50176 .f32) (main_v38 : IVec S1536x12544x2 32) : IVec S_ 1 :=
  let main_v39 : FVec F S1536x12544 .f32 := (fun x i => Host.gather gather_S1536x50176_S1536x12544x2_S1536x12544_n_01_n_n_01_2_11 x i) main_v21 main_v38
  let main_c_7 : IVec S_ 32 := constantI S_ 32 0#32
  let main_v40 : IVec S2x768x112x112 32 := broadcastInDim S2x768x112x112 ![] bcast_S_S2x768x112x112 main_c_7
  let main_v41 : IVec S2x768x112x112 1 := cmpi .sge main_arg1 main_v40
  let main_c_8 : IVec S_ 32 := constantI S_ 32 50176#32
  let main_v42 : IVec S2x768x112x112 32 := broadcastInDim S2x768x112x112 ![] bcast_S_S2x768x112x112 main_c_8
  let main_v43 : IVec S2x768x112x112 1 := cmpi .slt main_arg1 main_v42
  let main_v44 : IVec S2x768x112x112 1 := andi main_v41 main_v43
  let main_c_9 : IVec S_ 1 := constantI S_ 1 1#1
  let main_v45 : IVec S_ 1 := (fun x v => Host.reduce IntOp.andi x v reducesTo_S2x768x112x112_S_d0_1_2_3 h_S_) main_v44 main_c_9
  let main_v46 : FVec F S1536x12544 .f32 := shapeCast S1536x12544 main_arg0 shapeCasts_S2x768x112x112_S1536x12544
  let main_v47 : IVec S1536x12544 1 := cmpf .oeq main_v39 main_v46
  let main_c_10 : IVec S_ 1 := constantI S_ 1 1#1
  let main_v48 : IVec S_ 1 := (fun x v => Host.reduce IntOp.andi x v reducesTo_S1536x12544_S_d0_1 h_S_) main_v47 main_c_10
  let main_v49 : IVec S_ 1 := andi main_v45 main_v48
  main_v49

def fn_part1 {F : FTy → Type} [FloatOps F] (main_arg0 : FVec F S2x768x112x112 .f32) (main_arg1 : IVec S2x768x112x112 32) (main_v0 : FVec F S1536x12544 .f32) (main_v4 : FVec F S1536x50176 .f32) (main_v18 : IVec S1536x12544x2 32) : IVec S_ 1 :=
  let main_v19 : FVec F S1536x50176 .f32 := (fun x i u => Host.scatter scatter_S1536x50176_S1536x12544x2_S1536x12544_n_01_01_2 (fun _ b => b) x i u) main_v4 main_v18 main_v0
  let main_v20 : FVec F S2x768x224x224 .f32 := shapeCast S2x768x224x224 main_v19 shapeCasts_S1536x50176_S2x768x224x224
  let main_v21 : FVec F S1536x50176 .f32 := shapeCast S1536x50176 main_v20 shapeCasts_S2x768x224x224_S1536x50176
  let main_v22 : IVec S1536x12544 32 := shapeCast S1536x12544 main_arg1 shapeCasts_S2x768x112x112_S1536x12544
  let main_v23 : IVec S1536 32 := iotaInDim S1536 32 0
  let main_v24 : IVec S1536x1 32 := broadcastInDim S1536x1 ![0] bcast_S1536_S1536x1_0 main_v23
  let main_c_3 : IVec S_ 32 := constantI S_ 32 0#32
  let main_v25 : IVec S1536x1 32 := broadcastInDim S1536x1 ![] bcast_S_S1536x1 main_c_3
  let main_v26 : IVec S1536x1 1 := cmpi .slt main_v24 main_v25
  let main_c_4 : IVec S_ 32 := constantI S_ 32 1536#32
  let main_v27 : IVec S1536x1 32 := broadcastInDim S1536x1 ![] bcast_S_S1536x1 main_c_4
  let main_v28 : IVec S1536x1 32 := addi main_v24 main_v27
  let main_v29 : IVec S1536x1 32 := select main_v26 main_v28 main_v24
  let main_c_5 : IVec S_ 32 := constantI S_ 32 0#32
  let main_v30 : IVec S1536x12544 32 := broadcastInDim S1536x12544 ![] bcast_S_S1536x12544 main_c_5
  let main_v31 : IVec S1536x12544 1 := cmpi .slt main_v22 main_v30
  let main_c_6 : IVec S_ 32 := constantI S_ 32 50176#32
  let main_v32 : IVec S1536x12544 32 := broadcastInDim S1536x12544 ![] bcast_S_S1536x12544 main_c_6
  let main_v33 : IVec S1536x12544 32 := addi main_v22 main_v32
  let main_v34 : IVec S1536x12544 32 := select main_v31 main_v33 main_v22
  let main_v35 : IVec S1536x12544 32 := broadcastInDim S1536x12544 ![0, 1] bcast_S1536x1_S1536x12544_0_1 main_v29
  let main_v36 : IVec S1536x12544x1 32 := broadcastInDim S1536x12544x1 ![0, 1] bcast_S1536x12544_S1536x12544x1_0_1 main_v35
  let main_v37 : IVec S1536x12544x1 32 := broadcastInDim S1536x12544x1 ![0, 1] bcast_S1536x12544_S1536x12544x1_0_1 main_v34
  let main_v38 : IVec S1536x12544x2 32 := (fun a b => concatenate S1536x12544x2 2 [⟨S1536x12544x1, a⟩, ⟨S1536x12544x1, b⟩] concatenates_S1536x12544x1_S1536x12544x1_S1536x12544x2_d2) main_v36 main_v37
  fn_part2 (F := F) main_arg0 main_arg1 main_v21 main_v38

def fn {F : FTy → Type} [FloatOps F] (main_arg0 : FVec F S2x768x112x112 .f32) (main_arg1 : IVec S2x768x112x112 32) : IVec S_ 1 :=
  let main_v0 : FVec F S1536x12544 .f32 := shapeCast S1536x12544 main_arg0 shapeCasts_S2x768x112x112_S1536x12544
  let main_v1 : IVec S1536x12544 32 := shapeCast S1536x12544 main_arg1 shapeCasts_S2x768x112x112_S1536x12544
  let main_v2 : IVec S1536 32 := iotaInDim S1536 32 0
  let main_v3 : IVec S1536x1 32 := broadcastInDim S1536x1 ![0] bcast_S1536_S1536x1_0 main_v2
  let main_cst : FVec F S_ .f32 := constant S_ .f32 0x00000000#32
  let main_v4 : FVec F S1536x50176 .f32 := broadcastInDim S1536x50176 ![] bcast_S_S1536x50176 main_cst
  let main_c : IVec S_ 32 := constantI S_ 32 0#32
  let main_v5 : IVec S1536x1 32 := broadcastInDim S1536x1 ![] bcast_S_S1536x1 main_c
  let main_v6 : IVec S1536x1 1 := cmpi .slt main_v3 main_v5
  let main_c_0 : IVec S_ 32 := constantI S_ 32 1536#32
  let main_v7 : IVec S1536x1 32 := broadcastInDim S1536x1 ![] bcast_S_S1536x1 main_c_0
  let main_v8 : IVec S1536x1 32 := addi main_v3 main_v7
  let main_v9 : IVec S1536x1 32 := select main_v6 main_v8 main_v3
  let main_c_1 : IVec S_ 32 := constantI S_ 32 0#32
  let main_v10 : IVec S1536x12544 32 := broadcastInDim S1536x12544 ![] bcast_S_S1536x12544 main_c_1
  let main_v11 : IVec S1536x12544 1 := cmpi .slt main_v1 main_v10
  let main_c_2 : IVec S_ 32 := constantI S_ 32 50176#32
  let main_v12 : IVec S1536x12544 32 := broadcastInDim S1536x12544 ![] bcast_S_S1536x12544 main_c_2
  let main_v13 : IVec S1536x12544 32 := addi main_v1 main_v12
  let main_v14 : IVec S1536x12544 32 := select main_v11 main_v13 main_v1
  let main_v15 : IVec S1536x12544 32 := broadcastInDim S1536x12544 ![0, 1] bcast_S1536x1_S1536x12544_0_1 main_v9
  let main_v16 : IVec S1536x12544x1 32 := broadcastInDim S1536x12544x1 ![0, 1] bcast_S1536x12544_S1536x12544x1_0_1 main_v15
  let main_v17 : IVec S1536x12544x1 32 := broadcastInDim S1536x12544x1 ![0, 1] bcast_S1536x12544_S1536x12544x1_0_1 main_v14
  let main_v18 : IVec S1536x12544x2 32 := (fun a b => concatenate S1536x12544x2 2 [⟨S1536x12544x1, a⟩, ⟨S1536x12544x1, b⟩] concatenates_S1536x12544x1_S1536x12544x1_S1536x12544x2_d2) main_v16 main_v17
  fn_part1 (F := F) main_arg0 main_arg1 main_v0 main_v4 main_v18
-- ==== Kernel.lean ====
abbrev S2x768x112x112 : Shape := ⟨4, ![2, 768, 112, 112]⟩
abbrev S19267584 : Shape := ⟨1, ![19267584]⟩
abbrev S1536 : Shape := ⟨1, ![1536]⟩
abbrev S1536x1 : Shape := ⟨2, ![1536, 1]⟩
abbrev S1536x12544 : Shape := ⟨2, ![1536, 12544]⟩
abbrev S_ : Shape := ⟨0, ![]⟩
abbrev S77070336 : Shape := ⟨1, ![77070336]⟩
abbrev S12560 : Shape := ⟨1, ![12560]⟩
abbrev S12544 : Shape := ⟨1, ![12544]⟩
abbrev S50176 : Shape := ⟨1, ![50176]⟩
abbrev S16 : Shape := ⟨1, ![16]⟩
abbrev S2x768x224x224 : Shape := ⟨4, ![2, 768, 224, 224]⟩

abbrev nBuf : Table → Nat
  | .hbm => 16
  | .local .scVector .vmem => 5
  | _ => 0

abbrev bufTy : (tb : Table) → Fin (nBuf tb) → BufTy
  | .hbm, ⟨0, _⟩ => ⟨S2x768x112x112, .f32⟩
  | .hbm, ⟨1, _⟩ => ⟨S2x768x112x112, .i32⟩
  | .hbm, ⟨2, _⟩ => ⟨S19267584, .f32⟩
  | .hbm, ⟨3, _⟩ => ⟨S1536, .i32⟩
  | .hbm, ⟨4, _⟩ => ⟨S1536x1, .i32⟩
  | .hbm, ⟨5, _⟩ => ⟨S1536x12544, .i32⟩
  | .hbm, ⟨6, _⟩ => ⟨S_, .i32⟩
  | .hbm, ⟨7, _⟩ => ⟨S1536x1, .i32⟩
  | .hbm, ⟨8, _⟩ => ⟨S1536x1, .i32⟩
  | .hbm, ⟨9, _⟩ => ⟨S1536x12544, .i32⟩
  | .hbm, ⟨10, _⟩ => ⟨S1536x12544, .i32⟩
  | .hbm, ⟨11, _⟩ => ⟨S19267584, .i32⟩
  | .hbm, ⟨12, _⟩ => ⟨S19267584, .i32⟩
  | .hbm, ⟨13, _⟩ => ⟨S19267584, .f32⟩
  | .hbm, ⟨14, _⟩ => ⟨S77070336, .f32⟩
  | .hbm, ⟨15, _⟩ => ⟨S2x768x224x224, .f32⟩
  | .local .scVector .vmem, ⟨0, _⟩ => ⟨S12560, .i32⟩
  | .local .scVector .vmem, ⟨1, _⟩ => ⟨S12544, .f32⟩
  | .local .scVector .vmem, ⟨2, _⟩ => ⟨S12560, .i32⟩
  | .local .scVector .vmem, ⟨3, _⟩ => ⟨S12544, .f32⟩
  | .local .scVector .vmem, ⟨4, _⟩ => ⟨S50176, .f32⟩
  | _, _ => ⟨S2x768x112x112, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v9_1_scv : Ref sig .scVector := ⟨.hbm, 13, rfl⟩
abbrev main_v9_0_scv : Ref sig .scVector := ⟨.hbm, 12, rfl⟩
abbrev main_v10_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c196_i32 : BitVec 32 := 196#32
  let v4 : BitVec 32 := Scalar.addi c0_i32_0 c196_i32
  let c1_i32 : BitVec 32 := 1#32
  ⟨c0_i32_0, v4, c1_i32⟩
def k0_off1 (k0_t1 : Fin k0_t1_loop.trips) (c0_i32_6 : BitVec 32) : Fin 1 → Nat :=
  let c0_i32_0 : BitVec 32 := 0#32
  let c1_i32 : BitVec 32 := 1#32
  let arg12 : BitVec 32 := Scf.iv c0_i32_0 c1_i32 k0_t1
  let c16_i32 : BitVec 32 := 16#32
  let v6 : BitVec 32 := Scalar.muli arg12 c16_i32
  let v7 : BitVec 32 := Scalar.addi v6 c0_i32_6
  let c16_i32_7 : BitVec 32 := 16#32
  let v8 : BitVec 32 := Scalar.muli v7 c16_i32_7
  let v9 : Index := Scalar.indexCast v8
  ![v9.toNat]
@[reducible] def k0_t2_loop : Scf.Loop 32 :=
  let c0_i32_3 : BitVec 32 := 0#32
  let c24_i32 : BitVec 32 := 24#32
  let v5 : BitVec 32 := Scalar.addi c0_i32_3 c24_i32
  let c1_i32_4 : BitVec 32 := 1#32
  ⟨c0_i32_3, v5, c1_i32_4⟩
def k0_off2 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v6 : BitVec 32 := Scalar.muli v1 c48_i32
  let c2_i32_6 : BitVec 32 := 2#32
  let c0_i32_3 : BitVec 32 := 0#32
  let c1_i32_4 : BitVec 32 := 1#32
  let arg12 : BitVec 32 := Scf.iv c0_i32_3 c1_i32_4 k0_t2
  let v7 : BitVec 32 := Scalar.muli c2_i32_6 arg12
  let v8 : BitVec 32 := Scalar.addi v6 v7
  let c12544_i32 : BitVec 32 := 12544#32
  let v10 : BitVec 32 := Scalar.muli v8 c12544_i32
  ![v10.toNat]
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v6 : BitVec 32 := Scalar.muli v1 c48_i32
  let c2_i32_6 : BitVec 32 := 2#32
  let c0_i32_3 : BitVec 32 := 0#32
  let c1_i32_4 : BitVec 32 := 1#32
  let arg12 : BitVec 32 := Scf.iv c0_i32_3 c1_i32_4 k0_t2
  let v7 : BitVec 32 := Scalar.muli c2_i32_6 arg12
  let v8 : BitVec 32 := Scalar.addi v6 v7
  let c1_i32_7 : BitVec 32 := 1#32
  let v9 : BitVec 32 := Scalar.addi v8 c1_i32_7
  let c12544_i32_11 : BitVec 32 := 12544#32
  let v18 : BitVec 32 := Scalar.muli v9 c12544_i32_11
  ![v18.toNat]
@[reducible] def k0_t3_loop : Scf.Loop 32 :=
  let c0_i32_18 : BitVec 32 := 0#32
  let c49_i32 : BitVec 32 := 49#32
  let v35 : BitVec 32 := Scalar.addi c0_i32_18 c49_i32
  let c1_i32_19 : BitVec 32 := 1#32
  ⟨c0_i32_18, v35, c1_i32_19⟩
def k0_off4 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32 : BitVec 32 := 16#32
  let v50 : BitVec 32 := Scalar.muli arg13 c16_i32
  let c0_i32_42 : BitVec 32 := 0#32
  let v51 : BitVec 32 := Scalar.addi v50 c0_i32_42
  let c16_i32_43 : BitVec 32 := 16#32
  let v52 : BitVec 32 := Scalar.muli v51 c16_i32_43
  let v53 : Index := Scalar.indexCast v52
  ![v53.toNat]
def k0_off5 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32 : BitVec 32 := 16#32
  let v50 : BitVec 32 := Scalar.muli arg13 c16_i32
  let c0_i32_42 : BitVec 32 := 0#32
  let v51 : BitVec 32 := Scalar.addi v50 c0_i32_42
  let c16_i32_43 : BitVec 32 := 16#32
  let v52 : BitVec 32 := Scalar.muli v51 c16_i32_43
  let c1_i32_44 : BitVec 32 := 1#32
  let v55 : BitVec 32 := Scalar.addi v52 c1_i32_44
  let v56 : Index := Scalar.indexCast v55
  ![v56.toNat]
def k0_off6 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32 : BitVec 32 := 16#32
  let v50 : BitVec 32 := Scalar.muli arg13 c16_i32
  let c0_i32_42 : BitVec 32 := 0#32
  let v51 : BitVec 32 := Scalar.addi v50 c0_i32_42
  let c16_i32_43 : BitVec 32 := 16#32
  let v52 : BitVec 32 := Scalar.muli v51 c16_i32_43
  let v59 : Index := Scalar.indexCast v52
  ![v59.toNat]

def k0_chk1 (v61 : IVec S16 32) : Prop :=
  (∀ a x, ((![v61] : Fin 1 → IVec S16 32) a x).toNat < S50176.size a)
theorem k0_idx1_inb : ∀ (v61 : IVec S16 32) (k0_hw1 : k0_chk1 v61), ∀ a x, ((![v61] : Fin 1 → IVec S16 32) a x).toNat < S50176.size a := fun v61 k0_hw1 => k0_hw1
def k0_off7 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_45 : BitVec 32 := 16#32
  let v62 : BitVec 32 := Scalar.muli arg13 c16_i32_45
  let c1_i32_46 : BitVec 32 := 1#32
  let v63 : BitVec 32 := Scalar.addi v62 c1_i32_46
  let c16_i32_47 : BitVec 32 := 16#32
  let v64 : BitVec 32 := Scalar.muli v63 c16_i32_47
  let v65 : Index := Scalar.indexCast v64
  ![v65.toNat]
def k0_off8 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_45 : BitVec 32 := 16#32
  let v62 : BitVec 32 := Scalar.muli arg13 c16_i32_45
  let c1_i32_46 : BitVec 32 := 1#32
  let v63 : BitVec 32 := Scalar.addi v62 c1_i32_46
  let c16_i32_47 : BitVec 32 := 16#32
  let v64 : BitVec 32 := Scalar.muli v63 c16_i32_47
  let c1_i32_48 : BitVec 32 := 1#32
  let v67 : BitVec 32 := Scalar.addi v64 c1_i32_48
  let v68 : Index := Scalar.indexCast v67
  ![v68.toNat]
def k0_off9 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_45 : BitVec 32 := 16#32
  let v62 : BitVec 32 := Scalar.muli arg13 c16_i32_45
  let c1_i32_46 : BitVec 32 := 1#32
  let v63 : BitVec 32 := Scalar.addi v62 c1_i32_46
  let c16_i32_47 : BitVec 32 := 16#32
  let v64 : BitVec 32 := Scalar.muli v63 c16_i32_47
  let v71 : Index := Scalar.indexCast v64
  ![v71.toNat]

def k0_chk2 (v73 : IVec S16 32) : Prop :=
  (∀ a x, ((![v73] : Fin 1 → IVec S16 32) a x).toNat < S50176.size a)
theorem k0_idx2_inb : ∀ (v73 : IVec S16 32) (k0_hw2 : k0_chk2 v73), ∀ a x, ((![v73] : Fin 1 → IVec S16 32) a x).toNat < S50176.size a := fun v73 k0_hw2 => k0_hw2
def k0_off10 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_49 : BitVec 32 := 16#32
  let v74 : BitVec 32 := Scalar.muli arg13 c16_i32_49
  let c2_i32_50 : BitVec 32 := 2#32
  let v75 : BitVec 32 := Scalar.addi v74 c2_i32_50
  let c16_i32_51 : BitVec 32 := 16#32
  let v76 : BitVec 32 := Scalar.muli v75 c16_i32_51
  let v77 : Index := Scalar.indexCast v76
  ![v77.toNat]
def k0_off11 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_49 : BitVec 32 := 16#32
  let v74 : BitVec 32 := Scalar.muli arg13 c16_i32_49
  let c2_i32_50 : BitVec 32 := 2#32
  let v75 : BitVec 32 := Scalar.addi v74 c2_i32_50
  let c16_i32_51 : BitVec 32 := 16#32
  let v76 : BitVec 32 := Scalar.muli v75 c16_i32_51
  let c1_i32_52 : BitVec 32 := 1#32
  let v79 : BitVec 32 := Scalar.addi v76 c1_i32_52
  let v80 : Index := Scalar.indexCast v79
  ![v80.toNat]
def k0_off12 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_49 : BitVec 32 := 16#32
  let v74 : BitVec 32 := Scalar.muli arg13 c16_i32_49
  let c2_i32_50 : BitVec 32 := 2#32
  let v75 : BitVec 32 := Scalar.addi v74 c2_i32_50
  let c16_i32_51 : BitVec 32 := 16#32
  let v76 : BitVec 32 := Scalar.muli v75 c16_i32_51
  let v83 : Index := Scalar.indexCast v76
  ![v83.toNat]

def k0_chk3 (v85 : IVec S16 32) : Prop :=
  (∀ a x, ((![v85] : Fin 1 → IVec S16 32) a x).toNat < S50176.size a)
theorem k0_idx3_inb : ∀ (v85 : IVec S16 32) (k0_hw3 : k0_chk3 v85), ∀ a x, ((![v85] : Fin 1 → IVec S16 32) a x).toNat < S50176.size a := fun v85 k0_hw3 => k0_hw3
def k0_off13 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_53 : BitVec 32 := 16#32
  let v86 : BitVec 32 := Scalar.muli arg13 c16_i32_53
  let c3_i32 : BitVec 32 := 3#32
  let v87 : BitVec 32 := Scalar.addi v86 c3_i32
  let c16_i32_54 : BitVec 32 := 16#32
  let v88 : BitVec 32 := Scalar.muli v87 c16_i32_54
  let v89 : Index := Scalar.indexCast v88
  ![v89.toNat]
def k0_off14 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_53 : BitVec 32 := 16#32
  let v86 : BitVec 32 := Scalar.muli arg13 c16_i32_53
  let c3_i32 : BitVec 32 := 3#32
  let v87 : BitVec 32 := Scalar.addi v86 c3_i32
  let c16_i32_54 : BitVec 32 := 16#32
  let v88 : BitVec 32 := Scalar.muli v87 c16_i32_54
  let c1_i32_55 : BitVec 32 := 1#32
  let v91 : BitVec 32 := Scalar.addi v88 c1_i32_55
  let v92 : Index := Scalar.indexCast v91
  ![v92.toNat]
def k0_off15 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_53 : BitVec 32 := 16#32
  let v86 : BitVec 32 := Scalar.muli arg13 c16_i32_53
  let c3_i32 : BitVec 32 := 3#32
  let v87 : BitVec 32 := Scalar.addi v86 c3_i32
  let c16_i32_54 : BitVec 32 := 16#32
  let v88 : BitVec 32 := Scalar.muli v87 c16_i32_54
  let v95 : Index := Scalar.indexCast v88
  ![v95.toNat]

def k0_chk4 (v97 : IVec S16 32) : Prop :=
  (∀ a x, ((![v97] : Fin 1 → IVec S16 32) a x).toNat < S50176.size a)
theorem k0_idx4_inb : ∀ (v97 : IVec S16 32) (k0_hw4 : k0_chk4 v97), ∀ a x, ((![v97] : Fin 1 → IVec S16 32) a x).toNat < S50176.size a := fun v97 k0_hw4 => k0_hw4
def k0_off16 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_56 : BitVec 32 := 16#32
  let v98 : BitVec 32 := Scalar.muli arg13 c16_i32_56
  let c4_i32 : BitVec 32 := 4#32
  let v99 : BitVec 32 := Scalar.addi v98 c4_i32
  let c16_i32_57 : BitVec 32 := 16#32
  let v100 : BitVec 32 := Scalar.muli v99 c16_i32_57
  let v101 : Index := Scalar.indexCast v100
  ![v101.toNat]
def k0_off17 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_56 : BitVec 32 := 16#32
  let v98 : BitVec 32 := Scalar.muli arg13 c16_i32_56
  let c4_i32 : BitVec 32 := 4#32
  let v99 : BitVec 32 := Scalar.addi v98 c4_i32
  let c16_i32_57 : BitVec 32 := 16#32
  let v100 : BitVec 32 := Scalar.muli v99 c16_i32_57
  let c1_i32_58 : BitVec 32 := 1#32
  let v103 : BitVec 32 := Scalar.addi v100 c1_i32_58
  let v104 : Index := Scalar.indexCast v103
  ![v104.toNat]
def k0_off18 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_56 : BitVec 32 := 16#32
  let v98 : BitVec 32 := Scalar.muli arg13 c16_i32_56
  let c4_i32 : BitVec 32 := 4#32
  let v99 : BitVec 32 := Scalar.addi v98 c4_i32
  let c16_i32_57 : BitVec 32 := 16#32
  let v100 : BitVec 32 := Scalar.muli v99 c16_i32_57
  let v107 : Index := Scalar.indexCast v100
  ![v107.toNat]

def k0_chk5 (v109 : IVec S16 32) : Prop :=
  (∀ a x, ((![v109] : Fin 1 → IVec S16 32) a x).toNat < S50176.size a)
theorem k0_idx5_inb : ∀ (v109 : IVec S16 32) (k0_hw5 : k0_chk5 v109), ∀ a x, ((![v109] : Fin 1 → IVec S16 32) a x).toNat < S50176.size a := fun v109 k0_hw5 => k0_hw5
def k0_off19 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_59 : BitVec 32 := 16#32
  let v110 : BitVec 32 := Scalar.muli arg13 c16_i32_59
  let c5_i32 : BitVec 32 := 5#32
  let v111 : BitVec 32 := Scalar.addi v110 c5_i32
  let c16_i32_60 : BitVec 32 := 16#32
  let v112 : BitVec 32 := Scalar.muli v111 c16_i32_60
  let v113 : Index := Scalar.indexCast v112
  ![v113.toNat]
def k0_off20 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_59 : BitVec 32 := 16#32
  let v110 : BitVec 32 := Scalar.muli arg13 c16_i32_59
  let c5_i32 : BitVec 32 := 5#32
  let v111 : BitVec 32 := Scalar.addi v110 c5_i32
  let c16_i32_60 : BitVec 32 := 16#32
  let v112 : BitVec 32 := Scalar.muli v111 c16_i32_60
  let c1_i32_61 : BitVec 32 := 1#32
  let v115 : BitVec 32 := Scalar.addi v112 c1_i32_61
  let v116 : Index := Scalar.indexCast v115
  ![v116.toNat]
def k0_off21 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_59 : BitVec 32 := 16#32
  let v110 : BitVec 32 := Scalar.muli arg13 c16_i32_59
  let c5_i32 : BitVec 32 := 5#32
  let v111 : BitVec 32 := Scalar.addi v110 c5_i32
  let c16_i32_60 : BitVec 32 := 16#32
  let v112 : BitVec 32 := Scalar.muli v111 c16_i32_60
  let v119 : Index := Scalar.indexCast v112
  ![v119.toNat]

def k0_chk6 (v121 : IVec S16 32) : Prop :=
  (∀ a x, ((![v121] : Fin 1 → IVec S16 32) a x).toNat < S50176.size a)
theorem k0_idx6_inb : ∀ (v121 : IVec S16 32) (k0_hw6 : k0_chk6 v121), ∀ a x, ((![v121] : Fin 1 → IVec S16 32) a x).toNat < S50176.size a := fun v121 k0_hw6 => k0_hw6
def k0_off22 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_62 : BitVec 32 := 16#32
  let v122 : BitVec 32 := Scalar.muli arg13 c16_i32_62
  let c6_i32 : BitVec 32 := 6#32
  let v123 : BitVec 32 := Scalar.addi v122 c6_i32
  let c16_i32_63 : BitVec 32 := 16#32
  let v124 : BitVec 32 := Scalar.muli v123 c16_i32_63
  let v125 : Index := Scalar.indexCast v124
  ![v125.toNat]
def k0_off23 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_62 : BitVec 32 := 16#32
  let v122 : BitVec 32 := Scalar.muli arg13 c16_i32_62
  let c6_i32 : BitVec 32 := 6#32
  let v123 : BitVec 32 := Scalar.addi v122 c6_i32
  let c16_i32_63 : BitVec 32 := 16#32
  let v124 : BitVec 32 := Scalar.muli v123 c16_i32_63
  let c1_i32_64 : BitVec 32 := 1#32
  let v127 : BitVec 32 := Scalar.addi v124 c1_i32_64
  let v128 : Index := Scalar.indexCast v127
  ![v128.toNat]
def k0_off24 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_62 : BitVec 32 := 16#32
  let v122 : BitVec 32 := Scalar.muli arg13 c16_i32_62
  let c6_i32 : BitVec 32 := 6#32
  let v123 : BitVec 32 := Scalar.addi v122 c6_i32
  let c16_i32_63 : BitVec 32 := 16#32
  let v124 : BitVec 32 := Scalar.muli v123 c16_i32_63
  let v131 : Index := Scalar.indexCast v124
  ![v131.toNat]

def k0_chk7 (v133 : IVec S16 32) : Prop :=
  (∀ a x, ((![v133] : Fin 1 → IVec S16 32) a x).toNat < S50176.size a)
theorem k0_idx7_inb : ∀ (v133 : IVec S16 32) (k0_hw7 : k0_chk7 v133), ∀ a x, ((![v133] : Fin 1 → IVec S16 32) a x).toNat < S50176.size a := fun v133 k0_hw7 => k0_hw7
def k0_off25 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_65 : BitVec 32 := 16#32
  let v134 : BitVec 32 := Scalar.muli arg13 c16_i32_65
  let c7_i32 : BitVec 32 := 7#32
  let v135 : BitVec 32 := Scalar.addi v134 c7_i32
  let c16_i32_66 : BitVec 32 := 16#32
  let v136 : BitVec 32 := Scalar.muli v135 c16_i32_66
  let v137 : Index := Scalar.indexCast v136
  ![v137.toNat]
def k0_off26 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_65 : BitVec 32 := 16#32
  let v134 : BitVec 32 := Scalar.muli arg13 c16_i32_65
  let c7_i32 : BitVec 32 := 7#32
  let v135 : BitVec 32 := Scalar.addi v134 c7_i32
  let c16_i32_66 : BitVec 32 := 16#32
  let v136 : BitVec 32 := Scalar.muli v135 c16_i32_66
  let c1_i32_67 : BitVec 32 := 1#32
  let v139 : BitVec 32 := Scalar.addi v136 c1_i32_67
  let v140 : Index := Scalar.indexCast v139
  ![v140.toNat]
def k0_off27 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_65 : BitVec 32 := 16#32
  let v134 : BitVec 32 := Scalar.muli arg13 c16_i32_65
  let c7_i32 : BitVec 32 := 7#32
  let v135 : BitVec 32 := Scalar.addi v134 c7_i32
  let c16_i32_66 : BitVec 32 := 16#32
  let v136 : BitVec 32 := Scalar.muli v135 c16_i32_66
  let v143 : Index := Scalar.indexCast v136
  ![v143.toNat]

def k0_chk8 (v145 : IVec S16 32) : Prop :=
  (∀ a x, ((![v145] : Fin 1 → IVec S16 32) a x).toNat < S50176.size a)
theorem k0_idx8_inb : ∀ (v145 : IVec S16 32) (k0_hw8 : k0_chk8 v145), ∀ a x, ((![v145] : Fin 1 → IVec S16 32) a x).toNat < S50176.size a := fun v145 k0_hw8 => k0_hw8
def k0_off28 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_68 : BitVec 32 := 16#32
  let v146 : BitVec 32 := Scalar.muli arg13 c16_i32_68
  let c8_i32 : BitVec 32 := 8#32
  let v147 : BitVec 32 := Scalar.addi v146 c8_i32
  let c16_i32_69 : BitVec 32 := 16#32
  let v148 : BitVec 32 := Scalar.muli v147 c16_i32_69
  let v149 : Index := Scalar.indexCast v148
  ![v149.toNat]
def k0_off29 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_68 : BitVec 32 := 16#32
  let v146 : BitVec 32 := Scalar.muli arg13 c16_i32_68
  let c8_i32 : BitVec 32 := 8#32
  let v147 : BitVec 32 := Scalar.addi v146 c8_i32
  let c16_i32_69 : BitVec 32 := 16#32
  let v148 : BitVec 32 := Scalar.muli v147 c16_i32_69
  let c1_i32_70 : BitVec 32 := 1#32
  let v151 : BitVec 32 := Scalar.addi v148 c1_i32_70
  let v152 : Index := Scalar.indexCast v151
  ![v152.toNat]
def k0_off30 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_68 : BitVec 32 := 16#32
  let v146 : BitVec 32 := Scalar.muli arg13 c16_i32_68
  let c8_i32 : BitVec 32 := 8#32
  let v147 : BitVec 32 := Scalar.addi v146 c8_i32
  let c16_i32_69 : BitVec 32 := 16#32
  let v148 : BitVec 32 := Scalar.muli v147 c16_i32_69
  let v155 : Index := Scalar.indexCast v148
  ![v155.toNat]

def k0_chk9 (v157 : IVec S16 32) : Prop :=
  (∀ a x, ((![v157] : Fin 1 → IVec S16 32) a x).toNat < S50176.size a)
theorem k0_idx9_inb : ∀ (v157 : IVec S16 32) (k0_hw9 : k0_chk9 v157), ∀ a x, ((![v157] : Fin 1 → IVec S16 32) a x).toNat < S50176.size a := fun v157 k0_hw9 => k0_hw9
def k0_off31 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_71 : BitVec 32 := 16#32
  let v158 : BitVec 32 := Scalar.muli arg13 c16_i32_71
  let c9_i32 : BitVec 32 := 9#32
  let v159 : BitVec 32 := Scalar.addi v158 c9_i32
  let c16_i32_72 : BitVec 32 := 16#32
  let v160 : BitVec 32 := Scalar.muli v159 c16_i32_72
  let v161 : Index := Scalar.indexCast v160
  ![v161.toNat]
def k0_off32 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_71 : BitVec 32 := 16#32
  let v158 : BitVec 32 := Scalar.muli arg13 c16_i32_71
  let c9_i32 : BitVec 32 := 9#32
  let v159 : BitVec 32 := Scalar.addi v158 c9_i32
  let c16_i32_72 : BitVec 32 := 16#32
  let v160 : BitVec 32 := Scalar.muli v159 c16_i32_72
  let c1_i32_73 : BitVec 32 := 1#32
  let v163 : BitVec 32 := Scalar.addi v160 c1_i32_73
  let v164 : Index := Scalar.indexCast v163
  ![v164.toNat]
def k0_off33 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_71 : BitVec 32 := 16#32
  let v158 : BitVec 32 := Scalar.muli arg13 c16_i32_71
  let c9_i32 : BitVec 32 := 9#32
  let v159 : BitVec 32 := Scalar.addi v158 c9_i32
  let c16_i32_72 : BitVec 32 := 16#32
  let v160 : BitVec 32 := Scalar.muli v159 c16_i32_72
  let v167 : Index := Scalar.indexCast v160
  ![v167.toNat]

def k0_chk10 (v169 : IVec S16 32) : Prop :=
  (∀ a x, ((![v169] : Fin 1 → IVec S16 32) a x).toNat < S50176.size a)
theorem k0_idx10_inb : ∀ (v169 : IVec S16 32) (k0_hw10 : k0_chk10 v169), ∀ a x, ((![v169] : Fin 1 → IVec S16 32) a x).toNat < S50176.size a := fun v169 k0_hw10 => k0_hw10
def k0_off34 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_74 : BitVec 32 := 16#32
  let v170 : BitVec 32 := Scalar.muli arg13 c16_i32_74
  let c10_i32 : BitVec 32 := 10#32
  let v171 : BitVec 32 := Scalar.addi v170 c10_i32
  let c16_i32_75 : BitVec 32 := 16#32
  let v172 : BitVec 32 := Scalar.muli v171 c16_i32_75
  let v173 : Index := Scalar.indexCast v172
  ![v173.toNat]
def k0_off35 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_74 : BitVec 32 := 16#32
  let v170 : BitVec 32 := Scalar.muli arg13 c16_i32_74
  let c10_i32 : BitVec 32 := 10#32
  let v171 : BitVec 32 := Scalar.addi v170 c10_i32
  let c16_i32_75 : BitVec 32 := 16#32
  let v172 : BitVec 32 := Scalar.muli v171 c16_i32_75
  let c1_i32_76 : BitVec 32 := 1#32
  let v175 : BitVec 32 := Scalar.addi v172 c1_i32_76
  let v176 : Index := Scalar.indexCast v175
  ![v176.toNat]
def k0_off36 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_74 : BitVec 32 := 16#32
  let v170 : BitVec 32 := Scalar.muli arg13 c16_i32_74
  let c10_i32 : BitVec 32 := 10#32
  let v171 : BitVec 32 := Scalar.addi v170 c10_i32
  let c16_i32_75 : BitVec 32 := 16#32
  let v172 : BitVec 32 := Scalar.muli v171 c16_i32_75
  let v179 : Index := Scalar.indexCast v172
  ![v179.toNat]

def k0_chk11 (v181 : IVec S16 32) : Prop :=
  (∀ a x, ((![v181] : Fin 1 → IVec S16 32) a x).toNat < S50176.size a)
theorem k0_idx11_inb : ∀ (v181 : IVec S16 32) (k0_hw11 : k0_chk11 v181), ∀ a x, ((![v181] : Fin 1 → IVec S16 32) a x).toNat < S50176.size a := fun v181 k0_hw11 => k0_hw11
def k0_off37 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_77 : BitVec 32 := 16#32
  let v182 : BitVec 32 := Scalar.muli arg13 c16_i32_77
  let c11_i32 : BitVec 32 := 11#32
  let v183 : BitVec 32 := Scalar.addi v182 c11_i32
  let c16_i32_78 : BitVec 32 := 16#32
  let v184 : BitVec 32 := Scalar.muli v183 c16_i32_78
  let v185 : Index := Scalar.indexCast v184
  ![v185.toNat]
def k0_off38 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_77 : BitVec 32 := 16#32
  let v182 : BitVec 32 := Scalar.muli arg13 c16_i32_77
  let c11_i32 : BitVec 32 := 11#32
  let v183 : BitVec 32 := Scalar.addi v182 c11_i32
  let c16_i32_78 : BitVec 32 := 16#32
  let v184 : BitVec 32 := Scalar.muli v183 c16_i32_78
  let c1_i32_79 : BitVec 32 := 1#32
  let v187 : BitVec 32 := Scalar.addi v184 c1_i32_79
  let v188 : Index := Scalar.indexCast v187
  ![v188.toNat]
def k0_off39 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_77 : BitVec 32 := 16#32
  let v182 : BitVec 32 := Scalar.muli arg13 c16_i32_77
  let c11_i32 : BitVec 32 := 11#32
  let v183 : BitVec 32 := Scalar.addi v182 c11_i32
  let c16_i32_78 : BitVec 32 := 16#32
  let v184 : BitVec 32 := Scalar.muli v183 c16_i32_78
  let v191 : Index := Scalar.indexCast v184
  ![v191.toNat]

def k0_chk12 (v193 : IVec S16 32) : Prop :=
  (∀ a x, ((![v193] : Fin 1 → IVec S16 32) a x).toNat < S50176.size a)
theorem k0_idx12_inb : ∀ (v193 : IVec S16 32) (k0_hw12 : k0_chk12 v193), ∀ a x, ((![v193] : Fin 1 → IVec S16 32) a x).toNat < S50176.size a := fun v193 k0_hw12 => k0_hw12
def k0_off40 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_80 : BitVec 32 := 16#32
  let v194 : BitVec 32 := Scalar.muli arg13 c16_i32_80
  let c12_i32 : BitVec 32 := 12#32
  let v195 : BitVec 32 := Scalar.addi v194 c12_i32
  let c16_i32_81 : BitVec 32 := 16#32
  let v196 : BitVec 32 := Scalar.muli v195 c16_i32_81
  let v197 : Index := Scalar.indexCast v196
  ![v197.toNat]
def k0_off41 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_80 : BitVec 32 := 16#32
  let v194 : BitVec 32 := Scalar.muli arg13 c16_i32_80
  let c12_i32 : BitVec 32 := 12#32
  let v195 : BitVec 32 := Scalar.addi v194 c12_i32
  let c16_i32_81 : BitVec 32 := 16#32
  let v196 : BitVec 32 := Scalar.muli v195 c16_i32_81
  let c1_i32_82 : BitVec 32 := 1#32
  let v199 : BitVec 32 := Scalar.addi v196 c1_i32_82
  let v200 : Index := Scalar.indexCast v199
  ![v200.toNat]
def k0_off42 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_80 : BitVec 32 := 16#32
  let v194 : BitVec 32 := Scalar.muli arg13 c16_i32_80
  let c12_i32 : BitVec 32 := 12#32
  let v195 : BitVec 32 := Scalar.addi v194 c12_i32
  let c16_i32_81 : BitVec 32 := 16#32
  let v196 : BitVec 32 := Scalar.muli v195 c16_i32_81
  let v203 : Index := Scalar.indexCast v196
  ![v203.toNat]

def k0_chk13 (v205 : IVec S16 32) : Prop :=
  (∀ a x, ((![v205] : Fin 1 → IVec S16 32) a x).toNat < S50176.size a)
theorem k0_idx13_inb : ∀ (v205 : IVec S16 32) (k0_hw13 : k0_chk13 v205), ∀ a x, ((![v205] : Fin 1 → IVec S16 32) a x).toNat < S50176.size a := fun v205 k0_hw13 => k0_hw13
def k0_off43 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_83 : BitVec 32 := 16#32
  let v206 : BitVec 32 := Scalar.muli arg13 c16_i32_83
  let c13_i32 : BitVec 32 := 13#32
  let v207 : BitVec 32 := Scalar.addi v206 c13_i32
  let c16_i32_84 : BitVec 32 := 16#32
  let v208 : BitVec 32 := Scalar.muli v207 c16_i32_84
  let v209 : Index := Scalar.indexCast v208
  ![v209.toNat]
def k0_off44 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_83 : BitVec 32 := 16#32
  let v206 : BitVec 32 := Scalar.muli arg13 c16_i32_83
  let c13_i32 : BitVec 32 := 13#32
  let v207 : BitVec 32 := Scalar.addi v206 c13_i32
  let c16_i32_84 : BitVec 32 := 16#32
  let v208 : BitVec 32 := Scalar.muli v207 c16_i32_84
  let c1_i32_85 : BitVec 32 := 1#32
  let v211 : BitVec 32 := Scalar.addi v208 c1_i32_85
  let v212 : Index := Scalar.indexCast v211
  ![v212.toNat]
def k0_off45 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_83 : BitVec 32 := 16#32
  let v206 : BitVec 32 := Scalar.muli arg13 c16_i32_83
  let c13_i32 : BitVec 32 := 13#32
  let v207 : BitVec 32 := Scalar.addi v206 c13_i32
  let c16_i32_84 : BitVec 32 := 16#32
  let v208 : BitVec 32 := Scalar.muli v207 c16_i32_84
  let v215 : Index := Scalar.indexCast v208
  ![v215.toNat]

def k0_chk14 (v217 : IVec S16 32) : Prop :=
  (∀ a x, ((![v217] : Fin 1 → IVec S16 32) a x).toNat < S50176.size a)
theorem k0_idx14_inb : ∀ (v217 : IVec S16 32) (k0_hw14 : k0_chk14 v217), ∀ a x, ((![v217] : Fin 1 → IVec S16 32) a x).toNat < S50176.size a := fun v217 k0_hw14 => k0_hw14
def k0_off46 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_86 : BitVec 32 := 16#32
  let v218 : BitVec 32 := Scalar.muli arg13 c16_i32_86
  let c14_i32 : BitVec 32 := 14#32
  let v219 : BitVec 32 := Scalar.addi v218 c14_i32
  let c16_i32_87 : BitVec 32 := 16#32
  let v220 : BitVec 32 := Scalar.muli v219 c16_i32_87
  let v221 : Index := Scalar.indexCast v220
  ![v221.toNat]
def k0_off47 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_86 : BitVec 32 := 16#32
  let v218 : BitVec 32 := Scalar.muli arg13 c16_i32_86
  let c14_i32 : BitVec 32 := 14#32
  let v219 : BitVec 32 := Scalar.addi v218 c14_i32
  let c16_i32_87 : BitVec 32 := 16#32
  let v220 : BitVec 32 := Scalar.muli v219 c16_i32_87
  let c1_i32_88 : BitVec 32 := 1#32
  let v223 : BitVec 32 := Scalar.addi v220 c1_i32_88
  let v224 : Index := Scalar.indexCast v223
  ![v224.toNat]
def k0_off48 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_86 : BitVec 32 := 16#32
  let v218 : BitVec 32 := Scalar.muli arg13 c16_i32_86
  let c14_i32 : BitVec 32 := 14#32
  let v219 : BitVec 32 := Scalar.addi v218 c14_i32
  let c16_i32_87 : BitVec 32 := 16#32
  let v220 : BitVec 32 := Scalar.muli v219 c16_i32_87
  let v227 : Index := Scalar.indexCast v220
  ![v227.toNat]

def k0_chk15 (v229 : IVec S16 32) : Prop :=
  (∀ a x, ((![v229] : Fin 1 → IVec S16 32) a x).toNat < S50176.size a)
theorem k0_idx15_inb : ∀ (v229 : IVec S16 32) (k0_hw15 : k0_chk15 v229), ∀ a x, ((![v229] : Fin 1 → IVec S16 32) a x).toNat < S50176.size a := fun v229 k0_hw15 => k0_hw15
def k0_off49 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_89 : BitVec 32 := 16#32
  let v230 : BitVec 32 := Scalar.muli arg13 c16_i32_89
  let c15_i32 : BitVec 32 := 15#32
  let v231 : BitVec 32 := Scalar.addi v230 c15_i32
  let c16_i32_90 : BitVec 32 := 16#32
  let v232 : BitVec 32 := Scalar.muli v231 c16_i32_90
  let v233 : Index := Scalar.indexCast v232
  ![v233.toNat]
def k0_off50 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_89 : BitVec 32 := 16#32
  let v230 : BitVec 32 := Scalar.muli arg13 c16_i32_89
  let c15_i32 : BitVec 32 := 15#32
  let v231 : BitVec 32 := Scalar.addi v230 c15_i32
  let c16_i32_90 : BitVec 32 := 16#32
  let v232 : BitVec 32 := Scalar.muli v231 c16_i32_90
  let c1_i32_91 : BitVec 32 := 1#32
  let v235 : BitVec 32 := Scalar.addi v232 c1_i32_91
  let v236 : Index := Scalar.indexCast v235
  ![v236.toNat]
def k0_off51 (k0_t3 : Fin k0_t3_loop.trips) : Fin 1 → Nat :=
  let c0_i32_18 : BitVec 32 := 0#32
  let c1_i32_19 : BitVec 32 := 1#32
  let arg13 : BitVec 32 := Scf.iv c0_i32_18 c1_i32_19 k0_t3
  let c16_i32_89 : BitVec 32 := 16#32
  let v230 : BitVec 32 := Scalar.muli arg13 c16_i32_89
  let c15_i32 : BitVec 32 := 15#32
  let v231 : BitVec 32 := Scalar.addi v230 c15_i32
  let c16_i32_90 : BitVec 32 := 16#32
  let v232 : BitVec 32 := Scalar.muli v231 c16_i32_90
  let v239 : Index := Scalar.indexCast v232
  ![v239.toNat]

def k0_chk16 (v241 : IVec S16 32) : Prop :=
  (∀ a x, ((![v241] : Fin 1 → IVec S16 32) a x).toNat < S50176.size a)
theorem k0_idx16_inb : ∀ (v241 : IVec S16 32) (k0_hw16 : k0_chk16 v241), ∀ a x, ((![v241] : Fin 1 → IVec S16 32) a x).toNat < S50176.size a := fun v241 k0_hw16 => k0_hw16
def k0_off52 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v6 : BitVec 32 := Scalar.muli v1 c48_i32
  let c2_i32_6 : BitVec 32 := 2#32
  let c0_i32_3 : BitVec 32 := 0#32
  let c1_i32_4 : BitVec 32 := 1#32
  let arg12 : BitVec 32 := Scf.iv c0_i32_3 c1_i32_4 k0_t2
  let v7 : BitVec 32 := Scalar.muli c2_i32_6 arg12
  let v8 : BitVec 32 := Scalar.addi v6 v7
  let c50176_i32_21 : BitVec 32 := 50176#32
  let v36 : BitVec 32 := Scalar.muli v8 c50176_i32_21
  ![v36.toNat]
@[reducible] def k0_t4_loop : Scf.Loop 32 :=
  let c0_i32_23 : BitVec 32 := 0#32
  let c49_i32_24 : BitVec 32 := 49#32
  let v37 : BitVec 32 := Scalar.addi c0_i32_23 c49_i32_24
  let c1_i32_25 : BitVec 32 := 1#32
  ⟨c0_i32_23, v37, c1_i32_25⟩
def k0_off53 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32 : BitVec 32 := 16#32
  let v50 : BitVec 32 := Scalar.muli arg13 c16_i32
  let c0_i32_42 : BitVec 32 := 0#32
  let v51 : BitVec 32 := Scalar.addi v50 c0_i32_42
  let c16_i32_43 : BitVec 32 := 16#32
  let v52 : BitVec 32 := Scalar.muli v51 c16_i32_43
  let v53 : Index := Scalar.indexCast v52
  ![v53.toNat]

def k0_chk17 (v55 : IVec S16 32) : Prop :=
  (∀ a x, ((![v55] : Fin 1 → IVec S16 32) a x).toNat < S50176.size a)
theorem k0_idx17_inb : ∀ (v55 : IVec S16 32) (k0_hw17 : k0_chk17 v55), ∀ a x, ((![v55] : Fin 1 → IVec S16 32) a x).toNat < S50176.size a := fun v55 k0_hw17 => k0_hw17
def k0_off54 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_44 : BitVec 32 := 16#32
  let v56 : BitVec 32 := Scalar.muli arg13 c16_i32_44
  let c1_i32_45 : BitVec 32 := 1#32
  let v57 : BitVec 32 := Scalar.addi v56 c1_i32_45
  let c16_i32_46 : BitVec 32 := 16#32
  let v58 : BitVec 32 := Scalar.muli v57 c16_i32_46
  let v59 : Index := Scalar.indexCast v58
  ![v59.toNat]

def k0_chk18 (v61 : IVec S16 32) : Prop :=
  (∀ a x, ((![v61] : Fin 1 → IVec S16 32) a x).toNat < S50176.size a)
theorem k0_idx18_inb : ∀ (v61 : IVec S16 32) (k0_hw18 : k0_chk18 v61), ∀ a x, ((![v61] : Fin 1 → IVec S16 32) a x).toNat < S50176.size a := fun v61 k0_hw18 => k0_hw18
def k0_off55 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_47 : BitVec 32 := 16#32
  let v62 : BitVec 32 := Scalar.muli arg13 c16_i32_47
  let c2_i32_48 : BitVec 32 := 2#32
  let v63 : BitVec 32 := Scalar.addi v62 c2_i32_48
  let c16_i32_49 : BitVec 32 := 16#32
  let v64 : BitVec 32 := Scalar.muli v63 c16_i32_49
  let v65 : Index := Scalar.indexCast v64
  ![v65.toNat]

def k0_chk19 (v67 : IVec S16 32) : Prop :=
  (∀ a x, ((![v67] : Fin 1 → IVec S16 32) a x).toNat < S50176.size a)
theorem k0_idx19_inb : ∀ (v67 : IVec S16 32) (k0_hw19 : k0_chk19 v67), ∀ a x, ((![v67] : Fin 1 → IVec S16 32) a x).toNat < S50176.size a := fun v67 k0_hw19 => k0_hw19
def k0_off56 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_50 : BitVec 32 := 16#32
  let v68 : BitVec 32 := Scalar.muli arg13 c16_i32_50
  let c3_i32 : BitVec 32 := 3#32
  let v69 : BitVec 32 := Scalar.addi v68 c3_i32
  let c16_i32_51 : BitVec 32 := 16#32
  let v70 : BitVec 32 := Scalar.muli v69 c16_i32_51
  let v71 : Index := Scalar.indexCast v70
  ![v71.toNat]

def k0_chk20 (v73 : IVec S16 32) : Prop :=
  (∀ a x, ((![v73] : Fin 1 → IVec S16 32) a x).toNat < S50176.size a)
theorem k0_idx20_inb : ∀ (v73 : IVec S16 32) (k0_hw20 : k0_chk20 v73), ∀ a x, ((![v73] : Fin 1 → IVec S16 32) a x).toNat < S50176.size a := fun v73 k0_hw20 => k0_hw20
def k0_off57 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_52 : BitVec 32 := 16#32
  let v74 : BitVec 32 := Scalar.muli arg13 c16_i32_52
  let c4_i32 : BitVec 32 := 4#32
  let v75 : BitVec 32 := Scalar.addi v74 c4_i32
  let c16_i32_53 : BitVec 32 := 16#32
  let v76 : BitVec 32 := Scalar.muli v75 c16_i32_53
  let v77 : Index := Scalar.indexCast v76
  ![v77.toNat]

def k0_chk21 (v79 : IVec S16 32) : Prop :=
  (∀ a x, ((![v79] : Fin 1 → IVec S16 32) a x).toNat < S50176.size a)
theorem k0_idx21_inb : ∀ (v79 : IVec S16 32) (k0_hw21 : k0_chk21 v79), ∀ a x, ((![v79] : Fin 1 → IVec S16 32) a x).toNat < S50176.size a := fun v79 k0_hw21 => k0_hw21
def k0_off58 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_54 : BitVec 32 := 16#32
  let v80 : BitVec 32 := Scalar.muli arg13 c16_i32_54
  let c5_i32 : BitVec 32 := 5#32
  let v81 : BitVec 32 := Scalar.addi v80 c5_i32
  let c16_i32_55 : BitVec 32 := 16#32
  let v82 : BitVec 32 := Scalar.muli v81 c16_i32_55
  let v83 : Index := Scalar.indexCast v82
  ![v83.toNat]

def k0_chk22 (v85 : IVec S16 32) : Prop :=
  (∀ a x, ((![v85] : Fin 1 → IVec S16 32) a x).toNat < S50176.size a)
theorem k0_idx22_inb : ∀ (v85 : IVec S16 32) (k0_hw22 : k0_chk22 v85), ∀ a x, ((![v85] : Fin 1 → IVec S16 32) a x).toNat < S50176.size a := fun v85 k0_hw22 => k0_hw22
def k0_off59 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_56 : BitVec 32 := 16#32
  let v86 : BitVec 32 := Scalar.muli arg13 c16_i32_56
  let c6_i32 : BitVec 32 := 6#32
  let v87 : BitVec 32 := Scalar.addi v86 c6_i32
  let c16_i32_57 : BitVec 32 := 16#32
  let v88 : BitVec 32 := Scalar.muli v87 c16_i32_57
  let v89 : Index := Scalar.indexCast v88
  ![v89.toNat]

def k0_chk23 (v91 : IVec S16 32) : Prop :=
  (∀ a x, ((![v91] : Fin 1 → IVec S16 32) a x).toNat < S50176.size a)
theorem k0_idx23_inb : ∀ (v91 : IVec S16 32) (k0_hw23 : k0_chk23 v91), ∀ a x, ((![v91] : Fin 1 → IVec S16 32) a x).toNat < S50176.size a := fun v91 k0_hw23 => k0_hw23
def k0_off60 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_58 : BitVec 32 := 16#32
  let v92 : BitVec 32 := Scalar.muli arg13 c16_i32_58
  let c7_i32 : BitVec 32 := 7#32
  let v93 : BitVec 32 := Scalar.addi v92 c7_i32
  let c16_i32_59 : BitVec 32 := 16#32
  let v94 : BitVec 32 := Scalar.muli v93 c16_i32_59
  let v95 : Index := Scalar.indexCast v94
  ![v95.toNat]

def k0_chk24 (v97 : IVec S16 32) : Prop :=
  (∀ a x, ((![v97] : Fin 1 → IVec S16 32) a x).toNat < S50176.size a)
theorem k0_idx24_inb : ∀ (v97 : IVec S16 32) (k0_hw24 : k0_chk24 v97), ∀ a x, ((![v97] : Fin 1 → IVec S16 32) a x).toNat < S50176.size a := fun v97 k0_hw24 => k0_hw24
def k0_off61 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_60 : BitVec 32 := 16#32
  let v98 : BitVec 32 := Scalar.muli arg13 c16_i32_60
  let c8_i32 : BitVec 32 := 8#32
  let v99 : BitVec 32 := Scalar.addi v98 c8_i32
  let c16_i32_61 : BitVec 32 := 16#32
  let v100 : BitVec 32 := Scalar.muli v99 c16_i32_61
  let v101 : Index := Scalar.indexCast v100
  ![v101.toNat]

def k0_chk25 (v103 : IVec S16 32) : Prop :=
  (∀ a x, ((![v103] : Fin 1 → IVec S16 32) a x).toNat < S50176.size a)
theorem k0_idx25_inb : ∀ (v103 : IVec S16 32) (k0_hw25 : k0_chk25 v103), ∀ a x, ((![v103] : Fin 1 → IVec S16 32) a x).toNat < S50176.size a := fun v103 k0_hw25 => k0_hw25
def k0_off62 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_62 : BitVec 32 := 16#32
  let v104 : BitVec 32 := Scalar.muli arg13 c16_i32_62
  let c9_i32 : BitVec 32 := 9#32
  let v105 : BitVec 32 := Scalar.addi v104 c9_i32
  let c16_i32_63 : BitVec 32 := 16#32
  let v106 : BitVec 32 := Scalar.muli v105 c16_i32_63
  let v107 : Index := Scalar.indexCast v106
  ![v107.toNat]

def k0_chk26 (v109 : IVec S16 32) : Prop :=
  (∀ a x, ((![v109] : Fin 1 → IVec S16 32) a x).toNat < S50176.size a)
theorem k0_idx26_inb : ∀ (v109 : IVec S16 32) (k0_hw26 : k0_chk26 v109), ∀ a x, ((![v109] : Fin 1 → IVec S16 32) a x).toNat < S50176.size a := fun v109 k0_hw26 => k0_hw26
def k0_off63 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_64 : BitVec 32 := 16#32
  let v110 : BitVec 32 := Scalar.muli arg13 c16_i32_64
  let c10_i32 : BitVec 32 := 10#32
  let v111 : BitVec 32 := Scalar.addi v110 c10_i32
  let c16_i32_65 : BitVec 32 := 16#32
  let v112 : BitVec 32 := Scalar.muli v111 c16_i32_65
  let v113 : Index := Scalar.indexCast v112
  ![v113.toNat]

def k0_chk27 (v115 : IVec S16 32) : Prop :=
  (∀ a x, ((![v115] : Fin 1 → IVec S16 32) a x).toNat < S50176.size a)
theorem k0_idx27_inb : ∀ (v115 : IVec S16 32) (k0_hw27 : k0_chk27 v115), ∀ a x, ((![v115] : Fin 1 → IVec S16 32) a x).toNat < S50176.size a := fun v115 k0_hw27 => k0_hw27
def k0_off64 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_66 : BitVec 32 := 16#32
  let v116 : BitVec 32 := Scalar.muli arg13 c16_i32_66
  let c11_i32 : BitVec 32 := 11#32
  let v117 : BitVec 32 := Scalar.addi v116 c11_i32
  let c16_i32_67 : BitVec 32 := 16#32
  let v118 : BitVec 32 := Scalar.muli v117 c16_i32_67
  let v119 : Index := Scalar.indexCast v118
  ![v119.toNat]

def k0_chk28 (v121 : IVec S16 32) : Prop :=
  (∀ a x, ((![v121] : Fin 1 → IVec S16 32) a x).toNat < S50176.size a)
theorem k0_idx28_inb : ∀ (v121 : IVec S16 32) (k0_hw28 : k0_chk28 v121), ∀ a x, ((![v121] : Fin 1 → IVec S16 32) a x).toNat < S50176.size a := fun v121 k0_hw28 => k0_hw28
def k0_off65 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_68 : BitVec 32 := 16#32
  let v122 : BitVec 32 := Scalar.muli arg13 c16_i32_68
  let c12_i32 : BitVec 32 := 12#32
  let v123 : BitVec 32 := Scalar.addi v122 c12_i32
  let c16_i32_69 : BitVec 32 := 16#32
  let v124 : BitVec 32 := Scalar.muli v123 c16_i32_69
  let v125 : Index := Scalar.indexCast v124
  ![v125.toNat]

def k0_chk29 (v127 : IVec S16 32) : Prop :=
  (∀ a x, ((![v127] : Fin 1 → IVec S16 32) a x).toNat < S50176.size a)
theorem k0_idx29_inb : ∀ (v127 : IVec S16 32) (k0_hw29 : k0_chk29 v127), ∀ a x, ((![v127] : Fin 1 → IVec S16 32) a x).toNat < S50176.size a := fun v127 k0_hw29 => k0_hw29
def k0_off66 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_70 : BitVec 32 := 16#32
  let v128 : BitVec 32 := Scalar.muli arg13 c16_i32_70
  let c13_i32 : BitVec 32 := 13#32
  let v129 : BitVec 32 := Scalar.addi v128 c13_i32
  let c16_i32_71 : BitVec 32 := 16#32
  let v130 : BitVec 32 := Scalar.muli v129 c16_i32_71
  let v131 : Index := Scalar.indexCast v130
  ![v131.toNat]

def k0_chk30 (v133 : IVec S16 32) : Prop :=
  (∀ a x, ((![v133] : Fin 1 → IVec S16 32) a x).toNat < S50176.size a)
theorem k0_idx30_inb : ∀ (v133 : IVec S16 32) (k0_hw30 : k0_chk30 v133), ∀ a x, ((![v133] : Fin 1 → IVec S16 32) a x).toNat < S50176.size a := fun v133 k0_hw30 => k0_hw30
def k0_off67 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_72 : BitVec 32 := 16#32
  let v134 : BitVec 32 := Scalar.muli arg13 c16_i32_72
  let c14_i32 : BitVec 32 := 14#32
  let v135 : BitVec 32 := Scalar.addi v134 c14_i32
  let c16_i32_73 : BitVec 32 := 16#32
  let v136 : BitVec 32 := Scalar.muli v135 c16_i32_73
  let v137 : Index := Scalar.indexCast v136
  ![v137.toNat]

def k0_chk31 (v139 : IVec S16 32) : Prop :=
  (∀ a x, ((![v139] : Fin 1 → IVec S16 32) a x).toNat < S50176.size a)
theorem k0_idx31_inb : ∀ (v139 : IVec S16 32) (k0_hw31 : k0_chk31 v139), ∀ a x, ((![v139] : Fin 1 → IVec S16 32) a x).toNat < S50176.size a := fun v139 k0_hw31 => k0_hw31
def k0_off68 (k0_t4 : Fin k0_t4_loop.trips) : Fin 1 → Nat :=
  let c0_i32_23 : BitVec 32 := 0#32
  let c1_i32_25 : BitVec 32 := 1#32
  let arg13 : BitVec 32 := Scf.iv c0_i32_23 c1_i32_25 k0_t4
  let c16_i32_74 : BitVec 32 := 16#32
  let v140 : BitVec 32 := Scalar.muli arg13 c16_i32_74
  let c15_i32 : BitVec 32 := 15#32
  let v141 : BitVec 32 := Scalar.addi v140 c15_i32
  let c16_i32_75 : BitVec 32 := 16#32
  let v142 : BitVec 32 := Scalar.muli v141 c16_i32_75
  let v143 : Index := Scalar.indexCast v142
  ![v143.toNat]

def k0_chk32 (v145 : IVec S16 32) : Prop :=
  (∀ a x, ((![v145] : Fin 1 → IVec S16 32) a x).toNat < S50176.size a)
theorem k0_idx32_inb : ∀ (v145 : IVec S16 32) (k0_hw32 : k0_chk32 v145), ∀ a x, ((![v145] : Fin 1 → IVec S16 32) a x).toNat < S50176.size a := fun v145 k0_hw32 => k0_hw32
@[reducible] def k0_t5_loop : Scf.Loop 32 :=
  let c0_i32_32 : BitVec 32 := 0#32
  let c49_i32_33 : BitVec 32 := 49#32
  let v47 : BitVec 32 := Scalar.addi c0_i32_32 c49_i32_33
  let c1_i32_34 : BitVec 32 := 1#32
  ⟨c0_i32_32, v47, c1_i32_34⟩
def k0_off69 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32 : BitVec 32 := 16#32
  let v50 : BitVec 32 := Scalar.muli arg13 c16_i32
  let c0_i32_42 : BitVec 32 := 0#32
  let v51 : BitVec 32 := Scalar.addi v50 c0_i32_42
  let c16_i32_43 : BitVec 32 := 16#32
  let v52 : BitVec 32 := Scalar.muli v51 c16_i32_43
  let v53 : Index := Scalar.indexCast v52
  ![v53.toNat]
def k0_off70 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32 : BitVec 32 := 16#32
  let v50 : BitVec 32 := Scalar.muli arg13 c16_i32
  let c0_i32_42 : BitVec 32 := 0#32
  let v51 : BitVec 32 := Scalar.addi v50 c0_i32_42
  let c16_i32_43 : BitVec 32 := 16#32
  let v52 : BitVec 32 := Scalar.muli v51 c16_i32_43
  let c1_i32_44 : BitVec 32 := 1#32
  let v55 : BitVec 32 := Scalar.addi v52 c1_i32_44
  let v56 : Index := Scalar.indexCast v55
  ![v56.toNat]
def k0_off71 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32 : BitVec 32 := 16#32
  let v50 : BitVec 32 := Scalar.muli arg13 c16_i32
  let c0_i32_42 : BitVec 32 := 0#32
  let v51 : BitVec 32 := Scalar.addi v50 c0_i32_42
  let c16_i32_43 : BitVec 32 := 16#32
  let v52 : BitVec 32 := Scalar.muli v51 c16_i32_43
  let v59 : Index := Scalar.indexCast v52
  ![v59.toNat]

def k0_chk33 (v61 : IVec S16 32) : Prop :=
  (∀ a x, ((![v61] : Fin 1 → IVec S16 32) a x).toNat < S50176.size a)
theorem k0_idx33_inb : ∀ (v61 : IVec S16 32) (k0_hw33 : k0_chk33 v61), ∀ a x, ((![v61] : Fin 1 → IVec S16 32) a x).toNat < S50176.size a := fun v61 k0_hw33 => k0_hw33
def k0_off72 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_45 : BitVec 32 := 16#32
  let v62 : BitVec 32 := Scalar.muli arg13 c16_i32_45
  let c1_i32_46 : BitVec 32 := 1#32
  let v63 : BitVec 32 := Scalar.addi v62 c1_i32_46
  let c16_i32_47 : BitVec 32 := 16#32
  let v64 : BitVec 32 := Scalar.muli v63 c16_i32_47
  let v65 : Index := Scalar.indexCast v64
  ![v65.toNat]
def k0_off73 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_45 : BitVec 32 := 16#32
  let v62 : BitVec 32 := Scalar.muli arg13 c16_i32_45
  let c1_i32_46 : BitVec 32 := 1#32
  let v63 : BitVec 32 := Scalar.addi v62 c1_i32_46
  let c16_i32_47 : BitVec 32 := 16#32
  let v64 : BitVec 32 := Scalar.muli v63 c16_i32_47
  let c1_i32_48 : BitVec 32 := 1#32
  let v67 : BitVec 32 := Scalar.addi v64 c1_i32_48
  let v68 : Index := Scalar.indexCast v67
  ![v68.toNat]
def k0_off74 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_45 : BitVec 32 := 16#32
  let v62 : BitVec 32 := Scalar.muli arg13 c16_i32_45
  let c1_i32_46 : BitVec 32 := 1#32
  let v63 : BitVec 32 := Scalar.addi v62 c1_i32_46
  let c16_i32_47 : BitVec 32 := 16#32
  let v64 : BitVec 32 := Scalar.muli v63 c16_i32_47
  let v71 : Index := Scalar.indexCast v64
  ![v71.toNat]

def k0_chk34 (v73 : IVec S16 32) : Prop :=
  (∀ a x, ((![v73] : Fin 1 → IVec S16 32) a x).toNat < S50176.size a)
theorem k0_idx34_inb : ∀ (v73 : IVec S16 32) (k0_hw34 : k0_chk34 v73), ∀ a x, ((![v73] : Fin 1 → IVec S16 32) a x).toNat < S50176.size a := fun v73 k0_hw34 => k0_hw34
def k0_off75 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_49 : BitVec 32 := 16#32
  let v74 : BitVec 32 := Scalar.muli arg13 c16_i32_49
  let c2_i32_50 : BitVec 32 := 2#32
  let v75 : BitVec 32 := Scalar.addi v74 c2_i32_50
  let c16_i32_51 : BitVec 32 := 16#32
  let v76 : BitVec 32 := Scalar.muli v75 c16_i32_51
  let v77 : Index := Scalar.indexCast v76
  ![v77.toNat]
def k0_off76 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_49 : BitVec 32 := 16#32
  let v74 : BitVec 32 := Scalar.muli arg13 c16_i32_49
  let c2_i32_50 : BitVec 32 := 2#32
  let v75 : BitVec 32 := Scalar.addi v74 c2_i32_50
  let c16_i32_51 : BitVec 32 := 16#32
  let v76 : BitVec 32 := Scalar.muli v75 c16_i32_51
  let c1_i32_52 : BitVec 32 := 1#32
  let v79 : BitVec 32 := Scalar.addi v76 c1_i32_52
  let v80 : Index := Scalar.indexCast v79
  ![v80.toNat]
def k0_off77 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_49 : BitVec 32 := 16#32
  let v74 : BitVec 32 := Scalar.muli arg13 c16_i32_49
  let c2_i32_50 : BitVec 32 := 2#32
  let v75 : BitVec 32 := Scalar.addi v74 c2_i32_50
  let c16_i32_51 : BitVec 32 := 16#32
  let v76 : BitVec 32 := Scalar.muli v75 c16_i32_51
  let v83 : Index := Scalar.indexCast v76
  ![v83.toNat]

def k0_chk35 (v85 : IVec S16 32) : Prop :=
  (∀ a x, ((![v85] : Fin 1 → IVec S16 32) a x).toNat < S50176.size a)
theorem k0_idx35_inb : ∀ (v85 : IVec S16 32) (k0_hw35 : k0_chk35 v85), ∀ a x, ((![v85] : Fin 1 → IVec S16 32) a x).toNat < S50176.size a := fun v85 k0_hw35 => k0_hw35
def k0_off78 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_53 : BitVec 32 := 16#32
  let v86 : BitVec 32 := Scalar.muli arg13 c16_i32_53
  let c3_i32 : BitVec 32 := 3#32
  let v87 : BitVec 32 := Scalar.addi v86 c3_i32
  let c16_i32_54 : BitVec 32 := 16#32
  let v88 : BitVec 32 := Scalar.muli v87 c16_i32_54
  let v89 : Index := Scalar.indexCast v88
  ![v89.toNat]
def k0_off79 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_53 : BitVec 32 := 16#32
  let v86 : BitVec 32 := Scalar.muli arg13 c16_i32_53
  let c3_i32 : BitVec 32 := 3#32
  let v87 : BitVec 32 := Scalar.addi v86 c3_i32
  let c16_i32_54 : BitVec 32 := 16#32
  let v88 : BitVec 32 := Scalar.muli v87 c16_i32_54
  let c1_i32_55 : BitVec 32 := 1#32
  let v91 : BitVec 32 := Scalar.addi v88 c1_i32_55
  let v92 : Index := Scalar.indexCast v91
  ![v92.toNat]
def k0_off80 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_53 : BitVec 32 := 16#32
  let v86 : BitVec 32 := Scalar.muli arg13 c16_i32_53
  let c3_i32 : BitVec 32 := 3#32
  let v87 : BitVec 32 := Scalar.addi v86 c3_i32
  let c16_i32_54 : BitVec 32 := 16#32
  let v88 : BitVec 32 := Scalar.muli v87 c16_i32_54
  let v95 : Index := Scalar.indexCast v88
  ![v95.toNat]

def k0_chk36 (v97 : IVec S16 32) : Prop :=
  (∀ a x, ((![v97] : Fin 1 → IVec S16 32) a x).toNat < S50176.size a)
theorem k0_idx36_inb : ∀ (v97 : IVec S16 32) (k0_hw36 : k0_chk36 v97), ∀ a x, ((![v97] : Fin 1 → IVec S16 32) a x).toNat < S50176.size a := fun v97 k0_hw36 => k0_hw36
def k0_off81 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_56 : BitVec 32 := 16#32
  let v98 : BitVec 32 := Scalar.muli arg13 c16_i32_56
  let c4_i32 : BitVec 32 := 4#32
  let v99 : BitVec 32 := Scalar.addi v98 c4_i32
  let c16_i32_57 : BitVec 32 := 16#32
  let v100 : BitVec 32 := Scalar.muli v99 c16_i32_57
  let v101 : Index := Scalar.indexCast v100
  ![v101.toNat]
def k0_off82 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_56 : BitVec 32 := 16#32
  let v98 : BitVec 32 := Scalar.muli arg13 c16_i32_56
  let c4_i32 : BitVec 32 := 4#32
  let v99 : BitVec 32 := Scalar.addi v98 c4_i32
  let c16_i32_57 : BitVec 32 := 16#32
  let v100 : BitVec 32 := Scalar.muli v99 c16_i32_57
  let c1_i32_58 : BitVec 32 := 1#32
  let v103 : BitVec 32 := Scalar.addi v100 c1_i32_58
  let v104 : Index := Scalar.indexCast v103
  ![v104.toNat]
def k0_off83 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_56 : BitVec 32 := 16#32
  let v98 : BitVec 32 := Scalar.muli arg13 c16_i32_56
  let c4_i32 : BitVec 32 := 4#32
  let v99 : BitVec 32 := Scalar.addi v98 c4_i32
  let c16_i32_57 : BitVec 32 := 16#32
  let v100 : BitVec 32 := Scalar.muli v99 c16_i32_57
  let v107 : Index := Scalar.indexCast v100
  ![v107.toNat]

def k0_chk37 (v109 : IVec S16 32) : Prop :=
  (∀ a x, ((![v109] : Fin 1 → IVec S16 32) a x).toNat < S50176.size a)
theorem k0_idx37_inb : ∀ (v109 : IVec S16 32) (k0_hw37 : k0_chk37 v109), ∀ a x, ((![v109] : Fin 1 → IVec S16 32) a x).toNat < S50176.size a := fun v109 k0_hw37 => k0_hw37
def k0_off84 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_59 : BitVec 32 := 16#32
  let v110 : BitVec 32 := Scalar.muli arg13 c16_i32_59
  let c5_i32 : BitVec 32 := 5#32
  let v111 : BitVec 32 := Scalar.addi v110 c5_i32
  let c16_i32_60 : BitVec 32 := 16#32
  let v112 : BitVec 32 := Scalar.muli v111 c16_i32_60
  let v113 : Index := Scalar.indexCast v112
  ![v113.toNat]
def k0_off85 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_59 : BitVec 32 := 16#32
  let v110 : BitVec 32 := Scalar.muli arg13 c16_i32_59
  let c5_i32 : BitVec 32 := 5#32
  let v111 : BitVec 32 := Scalar.addi v110 c5_i32
  let c16_i32_60 : BitVec 32 := 16#32
  let v112 : BitVec 32 := Scalar.muli v111 c16_i32_60
  let c1_i32_61 : BitVec 32 := 1#32
  let v115 : BitVec 32 := Scalar.addi v112 c1_i32_61
  let v116 : Index := Scalar.indexCast v115
  ![v116.toNat]
def k0_off86 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_59 : BitVec 32 := 16#32
  let v110 : BitVec 32 := Scalar.muli arg13 c16_i32_59
  let c5_i32 : BitVec 32 := 5#32
  let v111 : BitVec 32 := Scalar.addi v110 c5_i32
  let c16_i32_60 : BitVec 32 := 16#32
  let v112 : BitVec 32 := Scalar.muli v111 c16_i32_60
  let v119 : Index := Scalar.indexCast v112
  ![v119.toNat]

def k0_chk38 (v121 : IVec S16 32) : Prop :=
  (∀ a x, ((![v121] : Fin 1 → IVec S16 32) a x).toNat < S50176.size a)
theorem k0_idx38_inb : ∀ (v121 : IVec S16 32) (k0_hw38 : k0_chk38 v121), ∀ a x, ((![v121] : Fin 1 → IVec S16 32) a x).toNat < S50176.size a := fun v121 k0_hw38 => k0_hw38
def k0_off87 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_62 : BitVec 32 := 16#32
  let v122 : BitVec 32 := Scalar.muli arg13 c16_i32_62
  let c6_i32 : BitVec 32 := 6#32
  let v123 : BitVec 32 := Scalar.addi v122 c6_i32
  let c16_i32_63 : BitVec 32 := 16#32
  let v124 : BitVec 32 := Scalar.muli v123 c16_i32_63
  let v125 : Index := Scalar.indexCast v124
  ![v125.toNat]
def k0_off88 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_62 : BitVec 32 := 16#32
  let v122 : BitVec 32 := Scalar.muli arg13 c16_i32_62
  let c6_i32 : BitVec 32 := 6#32
  let v123 : BitVec 32 := Scalar.addi v122 c6_i32
  let c16_i32_63 : BitVec 32 := 16#32
  let v124 : BitVec 32 := Scalar.muli v123 c16_i32_63
  let c1_i32_64 : BitVec 32 := 1#32
  let v127 : BitVec 32 := Scalar.addi v124 c1_i32_64
  let v128 : Index := Scalar.indexCast v127
  ![v128.toNat]
def k0_off89 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_62 : BitVec 32 := 16#32
  let v122 : BitVec 32 := Scalar.muli arg13 c16_i32_62
  let c6_i32 : BitVec 32 := 6#32
  let v123 : BitVec 32 := Scalar.addi v122 c6_i32
  let c16_i32_63 : BitVec 32 := 16#32
  let v124 : BitVec 32 := Scalar.muli v123 c16_i32_63
  let v131 : Index := Scalar.indexCast v124
  ![v131.toNat]

def k0_chk39 (v133 : IVec S16 32) : Prop :=
  (∀ a x, ((![v133] : Fin 1 → IVec S16 32) a x).toNat < S50176.size a)
theorem k0_idx39_inb : ∀ (v133 : IVec S16 32) (k0_hw39 : k0_chk39 v133), ∀ a x, ((![v133] : Fin 1 → IVec S16 32) a x).toNat < S50176.size a := fun v133 k0_hw39 => k0_hw39
def k0_off90 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_65 : BitVec 32 := 16#32
  let v134 : BitVec 32 := Scalar.muli arg13 c16_i32_65
  let c7_i32 : BitVec 32 := 7#32
  let v135 : BitVec 32 := Scalar.addi v134 c7_i32
  let c16_i32_66 : BitVec 32 := 16#32
  let v136 : BitVec 32 := Scalar.muli v135 c16_i32_66
  let v137 : Index := Scalar.indexCast v136
  ![v137.toNat]
def k0_off91 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_65 : BitVec 32 := 16#32
  let v134 : BitVec 32 := Scalar.muli arg13 c16_i32_65
  let c7_i32 : BitVec 32 := 7#32
  let v135 : BitVec 32 := Scalar.addi v134 c7_i32
  let c16_i32_66 : BitVec 32 := 16#32
  let v136 : BitVec 32 := Scalar.muli v135 c16_i32_66
  let c1_i32_67 : BitVec 32 := 1#32
  let v139 : BitVec 32 := Scalar.addi v136 c1_i32_67
  let v140 : Index := Scalar.indexCast v139
  ![v140.toNat]
def k0_off92 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_65 : BitVec 32 := 16#32
  let v134 : BitVec 32 := Scalar.muli arg13 c16_i32_65
  let c7_i32 : BitVec 32 := 7#32
  let v135 : BitVec 32 := Scalar.addi v134 c7_i32
  let c16_i32_66 : BitVec 32 := 16#32
  let v136 : BitVec 32 := Scalar.muli v135 c16_i32_66
  let v143 : Index := Scalar.indexCast v136
  ![v143.toNat]

def k0_chk40 (v145 : IVec S16 32) : Prop :=
  (∀ a x, ((![v145] : Fin 1 → IVec S16 32) a x).toNat < S50176.size a)
theorem k0_idx40_inb : ∀ (v145 : IVec S16 32) (k0_hw40 : k0_chk40 v145), ∀ a x, ((![v145] : Fin 1 → IVec S16 32) a x).toNat < S50176.size a := fun v145 k0_hw40 => k0_hw40
def k0_off93 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_68 : BitVec 32 := 16#32
  let v146 : BitVec 32 := Scalar.muli arg13 c16_i32_68
  let c8_i32 : BitVec 32 := 8#32
  let v147 : BitVec 32 := Scalar.addi v146 c8_i32
  let c16_i32_69 : BitVec 32 := 16#32
  let v148 : BitVec 32 := Scalar.muli v147 c16_i32_69
  let v149 : Index := Scalar.indexCast v148
  ![v149.toNat]
def k0_off94 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_68 : BitVec 32 := 16#32
  let v146 : BitVec 32 := Scalar.muli arg13 c16_i32_68
  let c8_i32 : BitVec 32 := 8#32
  let v147 : BitVec 32 := Scalar.addi v146 c8_i32
  let c16_i32_69 : BitVec 32 := 16#32
  let v148 : BitVec 32 := Scalar.muli v147 c16_i32_69
  let c1_i32_70 : BitVec 32 := 1#32
  let v151 : BitVec 32 := Scalar.addi v148 c1_i32_70
  let v152 : Index := Scalar.indexCast v151
  ![v152.toNat]
def k0_off95 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_68 : BitVec 32 := 16#32
  let v146 : BitVec 32 := Scalar.muli arg13 c16_i32_68
  let c8_i32 : BitVec 32 := 8#32
  let v147 : BitVec 32 := Scalar.addi v146 c8_i32
  let c16_i32_69 : BitVec 32 := 16#32
  let v148 : BitVec 32 := Scalar.muli v147 c16_i32_69
  let v155 : Index := Scalar.indexCast v148
  ![v155.toNat]

def k0_chk41 (v157 : IVec S16 32) : Prop :=
  (∀ a x, ((![v157] : Fin 1 → IVec S16 32) a x).toNat < S50176.size a)
theorem k0_idx41_inb : ∀ (v157 : IVec S16 32) (k0_hw41 : k0_chk41 v157), ∀ a x, ((![v157] : Fin 1 → IVec S16 32) a x).toNat < S50176.size a := fun v157 k0_hw41 => k0_hw41
def k0_off96 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_71 : BitVec 32 := 16#32
  let v158 : BitVec 32 := Scalar.muli arg13 c16_i32_71
  let c9_i32 : BitVec 32 := 9#32
  let v159 : BitVec 32 := Scalar.addi v158 c9_i32
  let c16_i32_72 : BitVec 32 := 16#32
  let v160 : BitVec 32 := Scalar.muli v159 c16_i32_72
  let v161 : Index := Scalar.indexCast v160
  ![v161.toNat]
def k0_off97 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_71 : BitVec 32 := 16#32
  let v158 : BitVec 32 := Scalar.muli arg13 c16_i32_71
  let c9_i32 : BitVec 32 := 9#32
  let v159 : BitVec 32 := Scalar.addi v158 c9_i32
  let c16_i32_72 : BitVec 32 := 16#32
  let v160 : BitVec 32 := Scalar.muli v159 c16_i32_72
  let c1_i32_73 : BitVec 32 := 1#32
  let v163 : BitVec 32 := Scalar.addi v160 c1_i32_73
  let v164 : Index := Scalar.indexCast v163
  ![v164.toNat]
def k0_off98 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_71 : BitVec 32 := 16#32
  let v158 : BitVec 32 := Scalar.muli arg13 c16_i32_71
  let c9_i32 : BitVec 32 := 9#32
  let v159 : BitVec 32 := Scalar.addi v158 c9_i32
  let c16_i32_72 : BitVec 32 := 16#32
  let v160 : BitVec 32 := Scalar.muli v159 c16_i32_72
  let v167 : Index := Scalar.indexCast v160
  ![v167.toNat]

def k0_chk42 (v169 : IVec S16 32) : Prop :=
  (∀ a x, ((![v169] : Fin 1 → IVec S16 32) a x).toNat < S50176.size a)
theorem k0_idx42_inb : ∀ (v169 : IVec S16 32) (k0_hw42 : k0_chk42 v169), ∀ a x, ((![v169] : Fin 1 → IVec S16 32) a x).toNat < S50176.size a := fun v169 k0_hw42 => k0_hw42
def k0_off99 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_74 : BitVec 32 := 16#32
  let v170 : BitVec 32 := Scalar.muli arg13 c16_i32_74
  let c10_i32 : BitVec 32 := 10#32
  let v171 : BitVec 32 := Scalar.addi v170 c10_i32
  let c16_i32_75 : BitVec 32 := 16#32
  let v172 : BitVec 32 := Scalar.muli v171 c16_i32_75
  let v173 : Index := Scalar.indexCast v172
  ![v173.toNat]
def k0_off100 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_74 : BitVec 32 := 16#32
  let v170 : BitVec 32 := Scalar.muli arg13 c16_i32_74
  let c10_i32 : BitVec 32 := 10#32
  let v171 : BitVec 32 := Scalar.addi v170 c10_i32
  let c16_i32_75 : BitVec 32 := 16#32
  let v172 : BitVec 32 := Scalar.muli v171 c16_i32_75
  let c1_i32_76 : BitVec 32 := 1#32
  let v175 : BitVec 32 := Scalar.addi v172 c1_i32_76
  let v176 : Index := Scalar.indexCast v175
  ![v176.toNat]
def k0_off101 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_74 : BitVec 32 := 16#32
  let v170 : BitVec 32 := Scalar.muli arg13 c16_i32_74
  let c10_i32 : BitVec 32 := 10#32
  let v171 : BitVec 32 := Scalar.addi v170 c10_i32
  let c16_i32_75 : BitVec 32 := 16#32
  let v172 : BitVec 32 := Scalar.muli v171 c16_i32_75
  let v179 : Index := Scalar.indexCast v172
  ![v179.toNat]

def k0_chk43 (v181 : IVec S16 32) : Prop :=
  (∀ a x, ((![v181] : Fin 1 → IVec S16 32) a x).toNat < S50176.size a)
theorem k0_idx43_inb : ∀ (v181 : IVec S16 32) (k0_hw43 : k0_chk43 v181), ∀ a x, ((![v181] : Fin 1 → IVec S16 32) a x).toNat < S50176.size a := fun v181 k0_hw43 => k0_hw43
def k0_off102 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_77 : BitVec 32 := 16#32
  let v182 : BitVec 32 := Scalar.muli arg13 c16_i32_77
  let c11_i32 : BitVec 32 := 11#32
  let v183 : BitVec 32 := Scalar.addi v182 c11_i32
  let c16_i32_78 : BitVec 32 := 16#32
  let v184 : BitVec 32 := Scalar.muli v183 c16_i32_78
  let v185 : Index := Scalar.indexCast v184
  ![v185.toNat]
def k0_off103 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_77 : BitVec 32 := 16#32
  let v182 : BitVec 32 := Scalar.muli arg13 c16_i32_77
  let c11_i32 : BitVec 32 := 11#32
  let v183 : BitVec 32 := Scalar.addi v182 c11_i32
  let c16_i32_78 : BitVec 32 := 16#32
  let v184 : BitVec 32 := Scalar.muli v183 c16_i32_78
  let c1_i32_79 : BitVec 32 := 1#32
  let v187 : BitVec 32 := Scalar.addi v184 c1_i32_79
  let v188 : Index := Scalar.indexCast v187
  ![v188.toNat]
def k0_off104 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_77 : BitVec 32 := 16#32
  let v182 : BitVec 32 := Scalar.muli arg13 c16_i32_77
  let c11_i32 : BitVec 32 := 11#32
  let v183 : BitVec 32 := Scalar.addi v182 c11_i32
  let c16_i32_78 : BitVec 32 := 16#32
  let v184 : BitVec 32 := Scalar.muli v183 c16_i32_78
  let v191 : Index := Scalar.indexCast v184
  ![v191.toNat]

def k0_chk44 (v193 : IVec S16 32) : Prop :=
  (∀ a x, ((![v193] : Fin 1 → IVec S16 32) a x).toNat < S50176.size a)
theorem k0_idx44_inb : ∀ (v193 : IVec S16 32) (k0_hw44 : k0_chk44 v193), ∀ a x, ((![v193] : Fin 1 → IVec S16 32) a x).toNat < S50176.size a := fun v193 k0_hw44 => k0_hw44
def k0_off105 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_80 : BitVec 32 := 16#32
  let v194 : BitVec 32 := Scalar.muli arg13 c16_i32_80
  let c12_i32 : BitVec 32 := 12#32
  let v195 : BitVec 32 := Scalar.addi v194 c12_i32
  let c16_i32_81 : BitVec 32 := 16#32
  let v196 : BitVec 32 := Scalar.muli v195 c16_i32_81
  let v197 : Index := Scalar.indexCast v196
  ![v197.toNat]
def k0_off106 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_80 : BitVec 32 := 16#32
  let v194 : BitVec 32 := Scalar.muli arg13 c16_i32_80
  let c12_i32 : BitVec 32 := 12#32
  let v195 : BitVec 32 := Scalar.addi v194 c12_i32
  let c16_i32_81 : BitVec 32 := 16#32
  let v196 : BitVec 32 := Scalar.muli v195 c16_i32_81
  let c1_i32_82 : BitVec 32 := 1#32
  let v199 : BitVec 32 := Scalar.addi v196 c1_i32_82
  let v200 : Index := Scalar.indexCast v199
  ![v200.toNat]
def k0_off107 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_80 : BitVec 32 := 16#32
  let v194 : BitVec 32 := Scalar.muli arg13 c16_i32_80
  let c12_i32 : BitVec 32 := 12#32
  let v195 : BitVec 32 := Scalar.addi v194 c12_i32
  let c16_i32_81 : BitVec 32 := 16#32
  let v196 : BitVec 32 := Scalar.muli v195 c16_i32_81
  let v203 : Index := Scalar.indexCast v196
  ![v203.toNat]

def k0_chk45 (v205 : IVec S16 32) : Prop :=
  (∀ a x, ((![v205] : Fin 1 → IVec S16 32) a x).toNat < S50176.size a)
theorem k0_idx45_inb : ∀ (v205 : IVec S16 32) (k0_hw45 : k0_chk45 v205), ∀ a x, ((![v205] : Fin 1 → IVec S16 32) a x).toNat < S50176.size a := fun v205 k0_hw45 => k0_hw45
def k0_off108 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_83 : BitVec 32 := 16#32
  let v206 : BitVec 32 := Scalar.muli arg13 c16_i32_83
  let c13_i32 : BitVec 32 := 13#32
  let v207 : BitVec 32 := Scalar.addi v206 c13_i32
  let c16_i32_84 : BitVec 32 := 16#32
  let v208 : BitVec 32 := Scalar.muli v207 c16_i32_84
  let v209 : Index := Scalar.indexCast v208
  ![v209.toNat]
def k0_off109 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_83 : BitVec 32 := 16#32
  let v206 : BitVec 32 := Scalar.muli arg13 c16_i32_83
  let c13_i32 : BitVec 32 := 13#32
  let v207 : BitVec 32 := Scalar.addi v206 c13_i32
  let c16_i32_84 : BitVec 32 := 16#32
  let v208 : BitVec 32 := Scalar.muli v207 c16_i32_84
  let c1_i32_85 : BitVec 32 := 1#32
  let v211 : BitVec 32 := Scalar.addi v208 c1_i32_85
  let v212 : Index := Scalar.indexCast v211
  ![v212.toNat]
def k0_off110 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_83 : BitVec 32 := 16#32
  let v206 : BitVec 32 := Scalar.muli arg13 c16_i32_83
  let c13_i32 : BitVec 32 := 13#32
  let v207 : BitVec 32 := Scalar.addi v206 c13_i32
  let c16_i32_84 : BitVec 32 := 16#32
  let v208 : BitVec 32 := Scalar.muli v207 c16_i32_84
  let v215 : Index := Scalar.indexCast v208
  ![v215.toNat]

def k0_chk46 (v217 : IVec S16 32) : Prop :=
  (∀ a x, ((![v217] : Fin 1 → IVec S16 32) a x).toNat < S50176.size a)
theorem k0_idx46_inb : ∀ (v217 : IVec S16 32) (k0_hw46 : k0_chk46 v217), ∀ a x, ((![v217] : Fin 1 → IVec S16 32) a x).toNat < S50176.size a := fun v217 k0_hw46 => k0_hw46
def k0_off111 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_86 : BitVec 32 := 16#32
  let v218 : BitVec 32 := Scalar.muli arg13 c16_i32_86
  let c14_i32 : BitVec 32 := 14#32
  let v219 : BitVec 32 := Scalar.addi v218 c14_i32
  let c16_i32_87 : BitVec 32 := 16#32
  let v220 : BitVec 32 := Scalar.muli v219 c16_i32_87
  let v221 : Index := Scalar.indexCast v220
  ![v221.toNat]
def k0_off112 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_86 : BitVec 32 := 16#32
  let v218 : BitVec 32 := Scalar.muli arg13 c16_i32_86
  let c14_i32 : BitVec 32 := 14#32
  let v219 : BitVec 32 := Scalar.addi v218 c14_i32
  let c16_i32_87 : BitVec 32 := 16#32
  let v220 : BitVec 32 := Scalar.muli v219 c16_i32_87
  let c1_i32_88 : BitVec 32 := 1#32
  let v223 : BitVec 32 := Scalar.addi v220 c1_i32_88
  let v224 : Index := Scalar.indexCast v223
  ![v224.toNat]
def k0_off113 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_86 : BitVec 32 := 16#32
  let v218 : BitVec 32 := Scalar.muli arg13 c16_i32_86
  let c14_i32 : BitVec 32 := 14#32
  let v219 : BitVec 32 := Scalar.addi v218 c14_i32
  let c16_i32_87 : BitVec 32 := 16#32
  let v220 : BitVec 32 := Scalar.muli v219 c16_i32_87
  let v227 : Index := Scalar.indexCast v220
  ![v227.toNat]

def k0_chk47 (v229 : IVec S16 32) : Prop :=
  (∀ a x, ((![v229] : Fin 1 → IVec S16 32) a x).toNat < S50176.size a)
theorem k0_idx47_inb : ∀ (v229 : IVec S16 32) (k0_hw47 : k0_chk47 v229), ∀ a x, ((![v229] : Fin 1 → IVec S16 32) a x).toNat < S50176.size a := fun v229 k0_hw47 => k0_hw47
def k0_off114 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_89 : BitVec 32 := 16#32
  let v230 : BitVec 32 := Scalar.muli arg13 c16_i32_89
  let c15_i32 : BitVec 32 := 15#32
  let v231 : BitVec 32 := Scalar.addi v230 c15_i32
  let c16_i32_90 : BitVec 32 := 16#32
  let v232 : BitVec 32 := Scalar.muli v231 c16_i32_90
  let v233 : Index := Scalar.indexCast v232
  ![v233.toNat]
def k0_off115 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_89 : BitVec 32 := 16#32
  let v230 : BitVec 32 := Scalar.muli arg13 c16_i32_89
  let c15_i32 : BitVec 32 := 15#32
  let v231 : BitVec 32 := Scalar.addi v230 c15_i32
  let c16_i32_90 : BitVec 32 := 16#32
  let v232 : BitVec 32 := Scalar.muli v231 c16_i32_90
  let c1_i32_91 : BitVec 32 := 1#32
  let v235 : BitVec 32 := Scalar.addi v232 c1_i32_91
  let v236 : Index := Scalar.indexCast v235
  ![v236.toNat]
def k0_off116 (k0_t5 : Fin k0_t5_loop.trips) : Fin 1 → Nat :=
  let c0_i32_32 : BitVec 32 := 0#32
  let c1_i32_34 : BitVec 32 := 1#32
  let arg13 : BitVec 32 := Scf.iv c0_i32_32 c1_i32_34 k0_t5
  let c16_i32_89 : BitVec 32 := 16#32
  let v230 : BitVec 32 := Scalar.muli arg13 c16_i32_89
  let c15_i32 : BitVec 32 := 15#32
  let v231 : BitVec 32 := Scalar.addi v230 c15_i32
  let c16_i32_90 : BitVec 32 := 16#32
  let v232 : BitVec 32 := Scalar.muli v231 c16_i32_90
  let v239 : Index := Scalar.indexCast v232
  ![v239.toNat]

def k0_chk48 (v241 : IVec S16 32) : Prop :=
  (∀ a x, ((![v241] : Fin 1 → IVec S16 32) a x).toNat < S50176.size a)
theorem k0_idx48_inb : ∀ (v241 : IVec S16 32) (k0_hw48 : k0_chk48 v241), ∀ a x, ((![v241] : Fin 1 → IVec S16 32) a x).toNat < S50176.size a := fun v241 k0_hw48 => k0_hw48
def k0_off117 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v6 : BitVec 32 := Scalar.muli v1 c48_i32
  let c2_i32_6 : BitVec 32 := 2#32
  let c0_i32_3 : BitVec 32 := 0#32
  let c1_i32_4 : BitVec 32 := 1#32
  let arg12 : BitVec 32 := Scf.iv c0_i32_3 c1_i32_4 k0_t2
  let v7 : BitVec 32 := Scalar.muli c2_i32_6 arg12
  let v8 : BitVec 32 := Scalar.addi v6 v7
  let c1_i32_7 : BitVec 32 := 1#32
  let v9 : BitVec 32 := Scalar.addi v8 c1_i32_7
  let c50176_i32_36 : BitVec 32 := 50176#32
  let v48 : BitVec 32 := Scalar.muli v9 c50176_i32_36
  ![v48.toNat]
@[reducible] def k0_t6_loop : Scf.Loop 32 :=
  let c0_i32_38 : BitVec 32 := 0#32
  let c49_i32_39 : BitVec 32 := 49#32
  let v49 : BitVec 32 := Scalar.addi c0_i32_38 c49_i32_39
  let c1_i32_40 : BitVec 32 := 1#32
  ⟨c0_i32_38, v49, c1_i32_40⟩
def k0_off118 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32 : BitVec 32 := 16#32
  let v50 : BitVec 32 := Scalar.muli arg13 c16_i32
  let c0_i32_42 : BitVec 32 := 0#32
  let v51 : BitVec 32 := Scalar.addi v50 c0_i32_42
  let c16_i32_43 : BitVec 32 := 16#32
  let v52 : BitVec 32 := Scalar.muli v51 c16_i32_43
  let v53 : Index := Scalar.indexCast v52
  ![v53.toNat]

def k0_chk49 (v55 : IVec S16 32) : Prop :=
  (∀ a x, ((![v55] : Fin 1 → IVec S16 32) a x).toNat < S50176.size a)
theorem k0_idx49_inb : ∀ (v55 : IVec S16 32) (k0_hw49 : k0_chk49 v55), ∀ a x, ((![v55] : Fin 1 → IVec S16 32) a x).toNat < S50176.size a := fun v55 k0_hw49 => k0_hw49
def k0_off119 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_44 : BitVec 32 := 16#32
  let v56 : BitVec 32 := Scalar.muli arg13 c16_i32_44
  let c1_i32_45 : BitVec 32 := 1#32
  let v57 : BitVec 32 := Scalar.addi v56 c1_i32_45
  let c16_i32_46 : BitVec 32 := 16#32
  let v58 : BitVec 32 := Scalar.muli v57 c16_i32_46
  let v59 : Index := Scalar.indexCast v58
  ![v59.toNat]

def k0_chk50 (v61 : IVec S16 32) : Prop :=
  (∀ a x, ((![v61] : Fin 1 → IVec S16 32) a x).toNat < S50176.size a)
theorem k0_idx50_inb : ∀ (v61 : IVec S16 32) (k0_hw50 : k0_chk50 v61), ∀ a x, ((![v61] : Fin 1 → IVec S16 32) a x).toNat < S50176.size a := fun v61 k0_hw50 => k0_hw50
def k0_off120 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_47 : BitVec 32 := 16#32
  let v62 : BitVec 32 := Scalar.muli arg13 c16_i32_47
  let c2_i32_48 : BitVec 32 := 2#32
  let v63 : BitVec 32 := Scalar.addi v62 c2_i32_48
  let c16_i32_49 : BitVec 32 := 16#32
  let v64 : BitVec 32 := Scalar.muli v63 c16_i32_49
  let v65 : Index := Scalar.indexCast v64
  ![v65.toNat]

def k0_chk51 (v67 : IVec S16 32) : Prop :=
  (∀ a x, ((![v67] : Fin 1 → IVec S16 32) a x).toNat < S50176.size a)
theorem k0_idx51_inb : ∀ (v67 : IVec S16 32) (k0_hw51 : k0_chk51 v67), ∀ a x, ((![v67] : Fin 1 → IVec S16 32) a x).toNat < S50176.size a := fun v67 k0_hw51 => k0_hw51
def k0_off121 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_50 : BitVec 32 := 16#32
  let v68 : BitVec 32 := Scalar.muli arg13 c16_i32_50
  let c3_i32 : BitVec 32 := 3#32
  let v69 : BitVec 32 := Scalar.addi v68 c3_i32
  let c16_i32_51 : BitVec 32 := 16#32
  let v70 : BitVec 32 := Scalar.muli v69 c16_i32_51
  let v71 : Index := Scalar.indexCast v70
  ![v71.toNat]

def k0_chk52 (v73 : IVec S16 32) : Prop :=
  (∀ a x, ((![v73] : Fin 1 → IVec S16 32) a x).toNat < S50176.size a)
theorem k0_idx52_inb : ∀ (v73 : IVec S16 32) (k0_hw52 : k0_chk52 v73), ∀ a x, ((![v73] : Fin 1 → IVec S16 32) a x).toNat < S50176.size a := fun v73 k0_hw52 => k0_hw52
def k0_off122 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_52 : BitVec 32 := 16#32
  let v74 : BitVec 32 := Scalar.muli arg13 c16_i32_52
  let c4_i32 : BitVec 32 := 4#32
  let v75 : BitVec 32 := Scalar.addi v74 c4_i32
  let c16_i32_53 : BitVec 32 := 16#32
  let v76 : BitVec 32 := Scalar.muli v75 c16_i32_53
  let v77 : Index := Scalar.indexCast v76
  ![v77.toNat]

def k0_chk53 (v79 : IVec S16 32) : Prop :=
  (∀ a x, ((![v79] : Fin 1 → IVec S16 32) a x).toNat < S50176.size a)
theorem k0_idx53_inb : ∀ (v79 : IVec S16 32) (k0_hw53 : k0_chk53 v79), ∀ a x, ((![v79] : Fin 1 → IVec S16 32) a x).toNat < S50176.size a := fun v79 k0_hw53 => k0_hw53
def k0_off123 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_54 : BitVec 32 := 16#32
  let v80 : BitVec 32 := Scalar.muli arg13 c16_i32_54
  let c5_i32 : BitVec 32 := 5#32
  let v81 : BitVec 32 := Scalar.addi v80 c5_i32
  let c16_i32_55 : BitVec 32 := 16#32
  let v82 : BitVec 32 := Scalar.muli v81 c16_i32_55
  let v83 : Index := Scalar.indexCast v82
  ![v83.toNat]

def k0_chk54 (v85 : IVec S16 32) : Prop :=
  (∀ a x, ((![v85] : Fin 1 → IVec S16 32) a x).toNat < S50176.size a)
theorem k0_idx54_inb : ∀ (v85 : IVec S16 32) (k0_hw54 : k0_chk54 v85), ∀ a x, ((![v85] : Fin 1 → IVec S16 32) a x).toNat < S50176.size a := fun v85 k0_hw54 => k0_hw54
def k0_off124 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_56 : BitVec 32 := 16#32
  let v86 : BitVec 32 := Scalar.muli arg13 c16_i32_56
  let c6_i32 : BitVec 32 := 6#32
  let v87 : BitVec 32 := Scalar.addi v86 c6_i32
  let c16_i32_57 : BitVec 32 := 16#32
  let v88 : BitVec 32 := Scalar.muli v87 c16_i32_57
  let v89 : Index := Scalar.indexCast v88
  ![v89.toNat]

def k0_chk55 (v91 : IVec S16 32) : Prop :=
  (∀ a x, ((![v91] : Fin 1 → IVec S16 32) a x).toNat < S50176.size a)
theorem k0_idx55_inb : ∀ (v91 : IVec S16 32) (k0_hw55 : k0_chk55 v91), ∀ a x, ((![v91] : Fin 1 → IVec S16 32) a x).toNat < S50176.size a := fun v91 k0_hw55 => k0_hw55
def k0_off125 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_58 : BitVec 32 := 16#32
  let v92 : BitVec 32 := Scalar.muli arg13 c16_i32_58
  let c7_i32 : BitVec 32 := 7#32
  let v93 : BitVec 32 := Scalar.addi v92 c7_i32
  let c16_i32_59 : BitVec 32 := 16#32
  let v94 : BitVec 32 := Scalar.muli v93 c16_i32_59
  let v95 : Index := Scalar.indexCast v94
  ![v95.toNat]

def k0_chk56 (v97 : IVec S16 32) : Prop :=
  (∀ a x, ((![v97] : Fin 1 → IVec S16 32) a x).toNat < S50176.size a)
theorem k0_idx56_inb : ∀ (v97 : IVec S16 32) (k0_hw56 : k0_chk56 v97), ∀ a x, ((![v97] : Fin 1 → IVec S16 32) a x).toNat < S50176.size a := fun v97 k0_hw56 => k0_hw56
def k0_off126 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_60 : BitVec 32 := 16#32
  let v98 : BitVec 32 := Scalar.muli arg13 c16_i32_60
  let c8_i32 : BitVec 32 := 8#32
  let v99 : BitVec 32 := Scalar.addi v98 c8_i32
  let c16_i32_61 : BitVec 32 := 16#32
  let v100 : BitVec 32 := Scalar.muli v99 c16_i32_61
  let v101 : Index := Scalar.indexCast v100
  ![v101.toNat]

def k0_chk57 (v103 : IVec S16 32) : Prop :=
  (∀ a x, ((![v103] : Fin 1 → IVec S16 32) a x).toNat < S50176.size a)
theorem k0_idx57_inb : ∀ (v103 : IVec S16 32) (k0_hw57 : k0_chk57 v103), ∀ a x, ((![v103] : Fin 1 → IVec S16 32) a x).toNat < S50176.size a := fun v103 k0_hw57 => k0_hw57
def k0_off127 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_62 : BitVec 32 := 16#32
  let v104 : BitVec 32 := Scalar.muli arg13 c16_i32_62
  let c9_i32 : BitVec 32 := 9#32
  let v105 : BitVec 32 := Scalar.addi v104 c9_i32
  let c16_i32_63 : BitVec 32 := 16#32
  let v106 : BitVec 32 := Scalar.muli v105 c16_i32_63
  let v107 : Index := Scalar.indexCast v106
  ![v107.toNat]

def k0_chk58 (v109 : IVec S16 32) : Prop :=
  (∀ a x, ((![v109] : Fin 1 → IVec S16 32) a x).toNat < S50176.size a)
theorem k0_idx58_inb : ∀ (v109 : IVec S16 32) (k0_hw58 : k0_chk58 v109), ∀ a x, ((![v109] : Fin 1 → IVec S16 32) a x).toNat < S50176.size a := fun v109 k0_hw58 => k0_hw58
def k0_off128 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_64 : BitVec 32 := 16#32
  let v110 : BitVec 32 := Scalar.muli arg13 c16_i32_64
  let c10_i32 : BitVec 32 := 10#32
  let v111 : BitVec 32 := Scalar.addi v110 c10_i32
  let c16_i32_65 : BitVec 32 := 16#32
  let v112 : BitVec 32 := Scalar.muli v111 c16_i32_65
  let v113 : Index := Scalar.indexCast v112
  ![v113.toNat]

def k0_chk59 (v115 : IVec S16 32) : Prop :=
  (∀ a x, ((![v115] : Fin 1 → IVec S16 32) a x).toNat < S50176.size a)
theorem k0_idx59_inb : ∀ (v115 : IVec S16 32) (k0_hw59 : k0_chk59 v115), ∀ a x, ((![v115] : Fin 1 → IVec S16 32) a x).toNat < S50176.size a := fun v115 k0_hw59 => k0_hw59
def k0_off129 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_66 : BitVec 32 := 16#32
  let v116 : BitVec 32 := Scalar.muli arg13 c16_i32_66
  let c11_i32 : BitVec 32 := 11#32
  let v117 : BitVec 32 := Scalar.addi v116 c11_i32
  let c16_i32_67 : BitVec 32 := 16#32
  let v118 : BitVec 32 := Scalar.muli v117 c16_i32_67
  let v119 : Index := Scalar.indexCast v118
  ![v119.toNat]

def k0_chk60 (v121 : IVec S16 32) : Prop :=
  (∀ a x, ((![v121] : Fin 1 → IVec S16 32) a x).toNat < S50176.size a)
theorem k0_idx60_inb : ∀ (v121 : IVec S16 32) (k0_hw60 : k0_chk60 v121), ∀ a x, ((![v121] : Fin 1 → IVec S16 32) a x).toNat < S50176.size a := fun v121 k0_hw60 => k0_hw60
def k0_off130 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_68 : BitVec 32 := 16#32
  let v122 : BitVec 32 := Scalar.muli arg13 c16_i32_68
  let c12_i32 : BitVec 32 := 12#32
  let v123 : BitVec 32 := Scalar.addi v122 c12_i32
  let c16_i32_69 : BitVec 32 := 16#32
  let v124 : BitVec 32 := Scalar.muli v123 c16_i32_69
  let v125 : Index := Scalar.indexCast v124
  ![v125.toNat]

def k0_chk61 (v127 : IVec S16 32) : Prop :=
  (∀ a x, ((![v127] : Fin 1 → IVec S16 32) a x).toNat < S50176.size a)
theorem k0_idx61_inb : ∀ (v127 : IVec S16 32) (k0_hw61 : k0_chk61 v127), ∀ a x, ((![v127] : Fin 1 → IVec S16 32) a x).toNat < S50176.size a := fun v127 k0_hw61 => k0_hw61
def k0_off131 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_70 : BitVec 32 := 16#32
  let v128 : BitVec 32 := Scalar.muli arg13 c16_i32_70
  let c13_i32 : BitVec 32 := 13#32
  let v129 : BitVec 32 := Scalar.addi v128 c13_i32
  let c16_i32_71 : BitVec 32 := 16#32
  let v130 : BitVec 32 := Scalar.muli v129 c16_i32_71
  let v131 : Index := Scalar.indexCast v130
  ![v131.toNat]

def k0_chk62 (v133 : IVec S16 32) : Prop :=
  (∀ a x, ((![v133] : Fin 1 → IVec S16 32) a x).toNat < S50176.size a)
theorem k0_idx62_inb : ∀ (v133 : IVec S16 32) (k0_hw62 : k0_chk62 v133), ∀ a x, ((![v133] : Fin 1 → IVec S16 32) a x).toNat < S50176.size a := fun v133 k0_hw62 => k0_hw62
def k0_off132 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_72 : BitVec 32 := 16#32
  let v134 : BitVec 32 := Scalar.muli arg13 c16_i32_72
  let c14_i32 : BitVec 32 := 14#32
  let v135 : BitVec 32 := Scalar.addi v134 c14_i32
  let c16_i32_73 : BitVec 32 := 16#32
  let v136 : BitVec 32 := Scalar.muli v135 c16_i32_73
  let v137 : Index := Scalar.indexCast v136
  ![v137.toNat]

def k0_chk63 (v139 : IVec S16 32) : Prop :=
  (∀ a x, ((![v139] : Fin 1 → IVec S16 32) a x).toNat < S50176.size a)
theorem k0_idx63_inb : ∀ (v139 : IVec S16 32) (k0_hw63 : k0_chk63 v139), ∀ a x, ((![v139] : Fin 1 → IVec S16 32) a x).toNat < S50176.size a := fun v139 k0_hw63 => k0_hw63
def k0_off133 (k0_t6 : Fin k0_t6_loop.trips) : Fin 1 → Nat :=
  let c0_i32_38 : BitVec 32 := 0#32
  let c1_i32_40 : BitVec 32 := 1#32
  let arg13 : BitVec 32 := Scf.iv c0_i32_38 c1_i32_40 k0_t6
  let c16_i32_74 : BitVec 32 := 16#32
  let v140 : BitVec 32 := Scalar.muli arg13 c16_i32_74
  let c15_i32 : BitVec 32 := 15#32
  let v141 : BitVec 32 := Scalar.addi v140 c15_i32
  let c16_i32_75 : BitVec 32 := 16#32
  let v142 : BitVec 32 := Scalar.muli v141 c16_i32_75
  let v143 : Index := Scalar.indexCast v142
  ![v143.toNat]

def k0_chk64 (v145 : IVec S16 32) : Prop :=
  (∀ a x, ((![v145] : Fin 1 → IVec S16 32) a x).toNat < S50176.size a)
theorem k0_idx64_inb : ∀ (v145 : IVec S16 32) (k0_hw64 : k0_chk64 v145), ∀ a x, ((![v145] : Fin 1 → IVec S16 32) a x).toNat < S50176.size a := fun v145 k0_hw64 => k0_hw64
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x768x112x112 : Shape := ⟨4, ![2, 768, 112, 112]⟩
abbrev S1536x12544 : Shape := ⟨2, ![1536, 12544]⟩
abbrev S1536 : Shape := ⟨1, ![1536]⟩
abbrev S1536x1 : Shape := ⟨2, ![1536, 1]⟩
abbrev S_ : Shape := ⟨0, ![]⟩
abbrev S1536x50176 : Shape := ⟨2, ![1536, 50176]⟩
abbrev S1536x12544x1 : Shape := ⟨3, ![1536, 12544, 1]⟩
abbrev S1536x12544x2 : Shape := ⟨3, ![1536, 12544, 2]⟩
abbrev S2x768x224x224 : Shape := ⟨4, ![2, 768, 224, 224]⟩

abbrev nBuf : Space → Nat
  | .hbm => 28
  | .vmem => 0
  | .smem => 0
  | _ => 0

abbrev bufTy : (tb : Table) → Fin (tcTables nBuf tb) → BufTy
  | .hbm, ⟨0, _⟩ => ⟨S2x768x112x112, .f32⟩
  | .hbm, ⟨1, _⟩ => ⟨S2x768x112x112, .i32⟩
  | .hbm, ⟨2, _⟩ => ⟨S1536x12544, .f32⟩
  | .hbm, ⟨3, _⟩ => ⟨S1536x12544, .i32⟩
  | .hbm, ⟨4, _⟩ => ⟨S1536, .i32⟩
  | .hbm, ⟨5, _⟩ => ⟨S1536x1, .i32⟩
  | .hbm, ⟨6, _⟩ => ⟨S_, .f32⟩
  | .hbm, ⟨7, _⟩ => ⟨S1536x50176, .f32⟩
  | .hbm, ⟨8, _⟩ => ⟨S_, .i32⟩
  | .hbm, ⟨9, _⟩ => ⟨S1536x1, .i32⟩
  | .hbm, ⟨10, _⟩ => ⟨S1536x1, .i1⟩
  | .hbm, ⟨11, _⟩ => ⟨S_, .i32⟩
  | .hbm, ⟨12, _⟩ => ⟨S1536x1, .i32⟩
  | .hbm, ⟨13, _⟩ => ⟨S1536x1, .i32⟩
  | .hbm, ⟨14, _⟩ => ⟨S1536x1, .i32⟩
  | .hbm, ⟨15, _⟩ => ⟨S_, .i32⟩
  | .hbm, ⟨16, _⟩ => ⟨S1536x12544, .i32⟩
  | .hbm, ⟨17, _⟩ => ⟨S1536x12544, .i1⟩
  | .hbm, ⟨18, _⟩ => ⟨S_, .i32⟩
  | .hbm, ⟨19, _⟩ => ⟨S1536x12544, .i32⟩
  | .hbm, ⟨20, _⟩ => ⟨S1536x12544, .i32⟩
  | .hbm, ⟨21, _⟩ => ⟨S1536x12544, .i32⟩
  | .hbm, ⟨22, _⟩ => ⟨S1536x12544, .i32⟩
  | .hbm, ⟨23, _⟩ => ⟨S1536x12544x1, .i32⟩
  | .hbm, ⟨24, _⟩ => ⟨S1536x12544x1, .i32⟩
  | .hbm, ⟨25, _⟩ => ⟨S1536x12544x2, .i32⟩
  | .hbm, ⟨26, _⟩ => ⟨S1536x50176, .f32⟩
  | .hbm, ⟨27, _⟩ => ⟨S2x768x224x224, .f32⟩
  | _, _ => ⟨S2x768x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== InOrderIdeal.lean ====
abbrev S2x768x112x112 : Shape := ⟨4, ![2, 768, 112, 112]⟩
abbrev S1536 : Shape := ⟨1, ![1536]⟩
abbrev S1536x1 : Shape := ⟨2, ![1536, 1]⟩
abbrev S1536x12544 : Shape := ⟨2, ![1536, 12544]⟩
abbrev S_ : Shape := ⟨0, ![]⟩
abbrev S19267584 : Shape := ⟨1, ![19267584]⟩
abbrev S77070336 : Shape := ⟨1, ![77070336]⟩
abbrev S19267584x1 : Shape := ⟨2, ![19267584, 1]⟩
abbrev S2x768x224x224 : Shape := ⟨4, ![2, 768, 224, 224]⟩

abbrev nBuf : Space → Nat
  | .hbm => 26
  | .vmem => 0
  | .smem => 0
  | _ => 0

abbrev bufTy : (tb : Table) → Fin (tcTables nBuf tb) → BufTy
  | .hbm, ⟨0, _⟩ => ⟨S2x768x112x112, .f32⟩
  | .hbm, ⟨1, _⟩ => ⟨S2x768x112x112, .i32⟩
  | .hbm, ⟨2, _⟩ => ⟨S1536, .i32⟩
  | .hbm, ⟨3, _⟩ => ⟨S1536x1, .i32⟩
  | .hbm, ⟨4, _⟩ => ⟨S1536x12544, .i32⟩
  | .hbm, ⟨5, _⟩ => ⟨S_, .i32⟩
  | .hbm, ⟨6, _⟩ => ⟨S1536x1, .i32⟩
  | .hbm, ⟨7, _⟩ => ⟨S1536x1, .i32⟩
  | .hbm, ⟨8, _⟩ => ⟨S1536x12544, .i32⟩
  | .hbm, ⟨9, _⟩ => ⟨S1536x12544, .i32⟩
  | .hbm, ⟨10, _⟩ => ⟨S19267584, .i32⟩
  | .hbm, ⟨11, _⟩ => ⟨S19267584, .f32⟩
  | .hbm, ⟨12, _⟩ => ⟨S19267584, .i32⟩
  | .hbm, ⟨13, _⟩ => ⟨S19267584, .f32⟩
  | .hbm, ⟨14, _⟩ => ⟨S_, .f32⟩
  | .hbm, ⟨15, _⟩ => ⟨S77070336, .f32⟩
  | .hbm, ⟨16, _⟩ => ⟨S_, .i32⟩
  | .hbm, ⟨17, _⟩ => ⟨S19267584, .i32⟩
  | .hbm, ⟨18, _⟩ => ⟨S19267584, .i1⟩
  | .hbm, ⟨19, _⟩ => ⟨S_, .i32⟩
  | .hbm, ⟨20, _⟩ => ⟨S19267584, .i32⟩
  | .hbm, ⟨21, _⟩ => ⟨S19267584, .i32⟩
  | .hbm, ⟨22, _⟩ => ⟨S19267584, .i32⟩
  | .hbm, ⟨23, _⟩ => ⟨S19267584x1, .i32⟩
  | .hbm, ⟨24, _⟩ => ⟨S77070336, .f32⟩
  | .hbm, ⟨25, _⟩ => ⟨S2x768x224x224, .f32⟩
  | _, _ => ⟨S2x768x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_cst : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Paint.lean ====
/- Laying a list of entries down on a plane, one after another: the picture the kernel's masked stores build up and
   wipe away again. -/
module

public import Idealize.ShloMosaic.PureOps

@[expose] public section

noncomputable section

namespace Cert.Paint

open Idealize.ShloMosaic

variable {α : Type}

/-- The plane after the first `n` entries: entry `k`, where it is kept, puts `val k` at place `pos k`; every other
    place keeps what it had, `init` at the start. -/
def paint (keep : ℕ → Bool) (pos : ℕ → ℕ) (val : ℕ → α) (init : ℕ → α) : ℕ → ℕ → α
  | 0, x => init x
  | n + 1, x => if keep n = true ∧ pos n = x then val n else paint keep pos val init n x

/-- One more entry. -/
theorem paint_succ (keep : ℕ → Bool) (pos : ℕ → ℕ) (val : ℕ → α) (init : ℕ → α) (n x : ℕ) :
    paint keep pos val init (n + 1) x = if keep n = true ∧ pos n = x then val n else paint keep pos val init n x := rfl

/-- A place no kept entry names holds what it had. -/
theorem paint_untouched {keep : ℕ → Bool} {pos : ℕ → ℕ} {val : ℕ → α} {init : ℕ → α} {n x : ℕ}
    (h : ∀ k < n, keep k = true → pos k ≠ x) : paint keep pos val init n x = init x := by
  induction n with
  | zero => rfl
  | succ n ih =>
    rw [paint_succ, if_neg fun hk => h n (Nat.lt_succ_self n) hk.1 hk.2]
    exact ih fun k hk => h k (Nat.lt_succ_of_lt hk)

/-- A place some kept entry names holds the value of the last such entry. -/
theorem paint_last {keep : ℕ → Bool} {pos : ℕ → ℕ} {val : ℕ → α} {init : ℕ → α} {n x k : ℕ}
    (hk : k < n) (hkeep : keep k = true) (hpos : pos k = x) (hlater : ∀ j, k < j → j < n → keep j = true → pos j ≠ x) :
    paint keep pos val init n x = val k := by
  induction n with
  | zero => omega
  | succ n ih =>
    rw [paint_succ]
    by_cases hkn : k = n
    · subst hkn; rw [if_pos ⟨hkeep, hpos⟩]
    · rw [if_neg fun h => hlater n (by omega) (Nat.lt_succ_self n) h.1 h.2]
      exact ih (by omega) fun j h1 h2 => hlater j h1 (Nat.lt_succ_of_lt h2)

/-- Writing one value `z` at every place an earlier painting over a plane of `z` touched gives the plane of `z` back. -/
theorem wipe_all {keep : ℕ → Bool} {pos : ℕ → ℕ} {val : ℕ → α} {z : α} (n x : ℕ) :
    paint (fun _ => true) pos (fun _ => z) (paint keep pos val (fun _ => z) n) n x = z := by
  by_cases h : ∃ k < n, pos k = x
  · -- the painting with every entry kept and one value reads that value wherever an entry points
    obtain ⟨k, hk, hx⟩ := h
    have key : ∀ m, k < m → ∀ init : ℕ → α, paint (fun _ => true) pos (fun _ => z) init m x = z := by
      intro m hm init
      induction m with
      | zero => omega
      | succ m ih =>
        rw [paint_succ]
        split_ifs with hc
        · rfl
        · exact ih (by
            by_contra hge
            exact hc ⟨rfl, by rw [show m = k by omega]; exact hx⟩)
    exact key n hk _
  · have h' : ∀ k < n, pos k ≠ x := fun k hk hx => h ⟨k, hk, hx⟩
    rw [paint_untouched fun k hk _ => h' k hk, paint_untouched fun k hk _ => h' k hk]

variable {F : FTy → Type} [FloatOps F]

/-- A masked indexed store of a lane vector carries the picture of the first `n` entries to that of `n` plus the
    vector's length, when lane `l` carries entry `n + l`: its place, its value, and in its mask bit whether it is kept. -/
theorem storeIdx_paint {d D : Fin 1 → ℕ} {e : EltTy} {keep : ℕ → Bool} {pos : ℕ → ℕ} {val : ℕ → Elt F e} {init : ℕ → Elt F e} {n : ℕ}
    (idxs : Fin 1 → IVec ⟨1, d⟩ 32) (v : Vec F ⟨1, d⟩ e) (mask : IVec ⟨1, d⟩ 1)
    (h : ∀ a x, (idxs a x).toNat < (⟨1, D⟩ : Shape).size a)
    (hpos : ∀ l : Fin (d 0), (idxs 0 (Shape.ofLane l)).toNat = pos (n + l))
    (hval : ∀ l : Fin (d 0), v (Shape.ofLane l) = val (n + l))
    (hmask : ∀ l : Fin (d 0), mask (Shape.ofLane l) = 1 ↔ keep (n + l) = true) :
    storeIdx (s := ⟨1, D⟩) (fun x => paint keep pos val init n (x 0).val) idxs v mask false h
      = fun x => paint keep pos val init (n + d 0) (x 0).val := by
  have key : ∀ k, k ≤ d 0 → ((List.finRange (d 0)).take k).foldl (fun (g : Vec F ⟨1, D⟩ e) l =>
      if mask (Shape.ofLane l) = 1 then
        fun j => if (∀ a, (j a).val = (idxAt idxs h (Shape.ofLane l) a).val) then
          (if false then Elt.idxAdd e (g (idxAt idxs h (Shape.ofLane l))) (v (Shape.ofLane l)) else v (Shape.ofLane l)) else g j
      else g) (fun x => paint keep pos val init n (x 0).val) = fun x => paint keep pos val init (n + k) (x 0).val := by
    intro k hk
    induction k with
    | zero => rfl
    | succ k ih =>
      rw [List.take_succ_eq_append_getElem (by simpa using Nat.lt_of_succ_le hk), List.foldl_append, ih (by omega)]
      simp only [List.foldl_cons, List.foldl_nil, List.getElem_finRange, Fin.cast_mk]
      funext x
      have hx : (∀ a, (x a).val = (idxAt idxs h (Shape.ofLane ⟨k, hk⟩) a).val) ↔ pos (n + k) = (x 0).val := by
        rw [← hpos ⟨k, hk⟩]
        exact ⟨fun hh => (hh 0).symm, fun hh a => by rw [Fin.eq_zero a]; exact hh.symm⟩
      rw [← Nat.add_assoc, paint_succ]
      by_cases hm : keep (n + k) = true
      · have h1 : mask (Shape.ofLane ⟨k, hk⟩) = 1 := (hmask ⟨k, hk⟩).2 hm
        by_cases hp : pos (n + k) = (x 0).val
        · simp [h1, hx, hp, hm, hval]
        · simp [h1, hx, hp]
      · have h1 : ¬ mask (Shape.ofLane ⟨k, hk⟩) = 1 := fun hc => hm ((hmask ⟨k, hk⟩).1 hc)
        rw [if_neg h1]
        simp [hm]
  have := key (d 0) le_rfl
  rw [List.take_of_length_le (by simp)] at this
  exact this

end Cert.Paint

end
-- ==== Proof.Setup.lean ====
/- What the proof of the kernel's run shares: the program as the launch theorem sees it, the resource algebra, the
   arrays, and what the arrays hold, row by row. -/
module

public import proofs.«01_k».proof.Defs
public import proofs.«01_k».proof.Proof.Paint
public import Idealize.ShloMosaic.Lib.SparseCore.Quiescent
public import Idealize.ShloMosaic.Lib.SparseCore.Ops
public import Idealize.ShloMosaic.Lib.StableHlo.Run
public import Idealize.ShloMosaic.Lib.Batch
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Unpool

open Cert.KernelIdeal Cert.KernelIdeal.Gen Cert.Paint

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the kernel's body table, lifted through the (empty) family of TensorCore pipelines. -/
abbrev ΛP : Labels := Pipeline.Sig Λ₀ (Fin 0) fun p => (pcfgs (F := F) p).Adm
/-- The one SparseCore call. -/
abbrev K : SparseCore.Cfg τ sig (ΛP (F := F)) 1 := sc (F := F)
/-- It runs on two SparseCores, -/
theorem nCore_zero : (K (F := F)).nCore 0 = 2 := rfl
/-- sixteen tasks on each. -/
theorem nSub_zero : (K (F := F)).nSub 0 = 16 := rfl
/-- The body table, lifted. -/
abbrev D [FloatOps F] : Defs nD τ sig (Elt F) (ΛP (F := F)) := Pipeline.defs pcfgs defs₀
/-- The kernel makes no call: no variant. -/
abbrev 𝒱₀ : Variants := Variants.none
abbrev 𝒱 : Variants := 𝒱₀.lift
abbrev v₀ : 𝒱.V := Sum.inl none

/-- The facts about the launch semaphores and the SparseCores' buffers the launch theorem takes, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

/-- The handshakes' rounds, the left factor. -/
abbrev EH : Emb UH (MT nD τ sig (HIx 1) (Elt F) ℕ UU ℕ) := embL

/-! ## The arrays and a task's scratch, as a task names them -/

abbrev vV : Memref sig .scVector .hbm S19267584 .f32 := Memref.whole main_v9_1_scv
abbrev kV : Memref sig .scVector .hbm S19267584 .i32 := Memref.whole main_v9_0_scv
abbrev oV : Memref sig .scVector .hbm S77070336 .f32 := Memref.whole main_v10_scv
/-- The two key buffers, the two value buffers and the plane. -/
abbrev sK0 : Memref sig .scVector .vmem S12560 .i32 := Memref.whole cc0_scratch0
abbrev sV0 : Memref sig .scVector .vmem S12544 .f32 := Memref.whole cc0_scratch1
abbrev sK1 : Memref sig .scVector .vmem S12560 .i32 := Memref.whole cc0_scratch2
abbrev sV1 : Memref sig .scVector .vmem S12544 .f32 := Memref.whole cc0_scratch3
abbrev sP : Memref sig .scVector .vmem S50176 .f32 := Memref.whole cc0_scratch4

/-- The SparseCore and the vector subcore of the task at grid point `L`. -/
abbrev cV (L : grid0.Coords) : Fin τ.nSC := (L 0).castLE hcore0
abbrev jV (L : grid0.Coords) : Fin τ.nSub := (L 1).castLE hsub0
/-- The task's thread on device `d`. -/
abbrev thr (d : Dev nD) (L : grid0.Coords) : Thread nD τ := V d (cV L) (jV L)

/-! ## What the arrays hold, row by row -/

/-- Entry `n` of a vector, by a natural number (wrapped round its length). -/
def entry {α : Type} {D : ℕ} (hD : 0 < D) (f : (⟨1, ![D]⟩ : Shape).Idx → α) (n : ℕ) : α :=
  f fun a => ⟨n % D, by rw [Fin.eq_zero a]; exact Nat.mod_lt _ hD⟩

variable [FloatOps F]

/-- The zero the plane is filled and wiped with. -/
abbrev zero : F .f32 := Scalar.ofBits .f32 0x00000000#32

/-- Entry `n` of row `r`'s keys followed by the mark that ends a row. -/
def rowKey (k : S19267584.Idx → BitVec 32) (r n : ℕ) : BitVec 32 :=
  if n < 12544 then entry (D := 19267584) (by decide) k (r * 12544 + n) else 4294967295#32
/-- Entry `n` of row `r`'s values. -/
def rowVal (v : S19267584.Idx → F .f32) (r n : ℕ) : F .f32 := entry (D := 19267584) (by decide) v (r * 12544 + n)
/-- The place in the plane of row `r` its entry `n` names. -/
def rowPos (k : S19267584.Idx → BitVec 32) (r n : ℕ) : ℕ := (rowKey k r n - BitVec.ofNat 32 (r * 50176)).toNat
/-- Whether row `r`'s entry `n` is kept: the next entry has another key. -/
def rowKeep (k : S19267584.Idx → BitVec 32) (r n : ℕ) : Bool := rowKey k r n != rowKey k r (n + 1)
/-- Row `r`'s plane after its first `n` entries are laid down. -/
def drawn (k : S19267584.Idx → BitVec 32) (v : S19267584.Idx → F .f32) (r n : ℕ) : ℕ → F .f32 :=
  paint (rowKeep k r) (rowPos k r) (rowVal v r) (fun _ => zero) n
/-- Row `r`'s plane after its first `n` entries are wiped away again. -/
def wiped (k : S19267584.Idx → BitVec 32) (v : S19267584.Idx → F .f32) (r n : ℕ) : ℕ → F .f32 :=
  paint (fun _ => true) (rowPos k r) (fun _ => zero) (drawn k v r 12544) n
/-- The result: each plane fully drawn. -/
def result (k : S19267584.Idx → BitVec 32) (v : S19267584.Idx → F .f32) : S77070336.Idx → F .f32 :=
  fun p => drawn k v ((p 0).val / 50176) 12544 ((p 0).val % 50176)

/-- Every key of every row names a place of that row's plane. -/
def InRows (k : S19267584.Idx → BitVec 32) : Prop := ∀ r < 1536, ∀ n < 12544, rowPos k r n < 50176

/-- Nothing is drawn before the first entry. -/
theorem drawn_zero (k : S19267584.Idx → BitVec 32) (v : S19267584.Idx → F .f32) (r x : ℕ) : drawn k v r 0 x = zero := rfl
/-- Wiping starts from the full drawing, -/
theorem wiped_zero (k : S19267584.Idx → BitVec 32) (v : S19267584.Idx → F .f32) (r x : ℕ) : wiped k v r 0 x = drawn k v r 12544 x := rfl
/-- and leaves nothing. -/
theorem wiped_all (k : S19267584.Idx → BitVec 32) (v : S19267584.Idx → F .f32) (r x : ℕ) : wiped k v r 12544 x = zero :=
  wipe_all 12544 x

end Cert.Proof.Unpool

end
-- ==== Proof.Order.lean ====
/- The host's sort of pairs by their first parts: a rearrangement whose keys ascend; and a rearrangement that keeps rows in order keeps every row in its place. -/
module

public import Idealize.ShloMosaic.Lib.SortFacts
public import Idealize.ShloMosaic.Lib.Routing.OpsSet
public import Mathlib.Data.List.FinRange

@[expose] public section

namespace Cert.Order

open Idealize.ShloMosaic

/-- The host's unstable sort of a list of pairs by signed comparison of their first parts, where these are not negative: there is a rearrangement
    of the positions by which both results read their operands, and along which the keys ascend. In which order equal keys come is not said. -/
theorem sort_reads {N : ℕ} {β : Type} (x : IVec ⟨1, ![N]⟩ 32) (y : (⟨1, ![N]⟩ : Shape).Idx → β) (hx : ∀ i, (x i).toNat < 2 ^ 31) :
    ∃ σ : Equiv.Perm (Fin N),
      (∀ n, (Host.unstableSort2 ⟨1, ![N]⟩ 0 (fun l r => IntOp.cmpi .slt l.1 r.1) x y).1 (.ofFin n) = x (.ofFin (σ n)))
      ∧ (∀ n, (Host.unstableSort2 ⟨1, ![N]⟩ 0 (fun l r => IntOp.cmpi .slt l.1 r.1) x y).2 (.ofFin n) = y (.ofFin (σ n)))
      ∧ Monotone fun n => (x (.ofFin (σ n))).toNat := by
  have hd : 0 < (⟨1, ![N]⟩ : Shape).rank := Nat.zero_lt_one
  have e : ∀ (j : (⟨1, ![N]⟩ : Shape).Idx) (c : Fin N), j.along (⟨0, hd⟩ : Fin (⟨1, ![N]⟩ : Shape).rank) c = .ofFin c :=
    fun j c => Shape.Idx.along_rank1 j c
  have hc : ∀ a b : BitVec 32 × β, IntOp.cmpi .slt a.1 b.1 = 1#1 ↔ a.1.toInt < b.1.toInt := fun a b => by
    rw [WordCmp.cmpi_slt_eq, WordCmp.ofBool_decide_eq_one_iff]
  let before : Fin N → Fin N → Bool := unstableBefore ⟨1, ![N]⟩ 0 (fun l r : BitVec 32 × β => IntOp.cmpi .slt l.1 r.1) fun k => (x (.ofFin k), y (.ofFin k))
  have hb : ∀ j : (⟨1, ![N]⟩ : Shape).Idx, (unstableBefore ⟨1, ![N]⟩ 0 (fun l r : BitVec 32 × β => IntOp.cmpi .slt l.1 r.1)
      fun k : Fin N => (x (j.along (⟨0, hd⟩ : Fin (⟨1, ![N]⟩ : Shape).rank) k), y (j.along (⟨0, hd⟩ : Fin (⟨1, ![N]⟩ : Shape).rank) k))) = before := fun j => by
    refine congrArg (unstableBefore _ _ _) (funext fun k => ?_)
    rw [e]
  refine ⟨Equiv.ofBijective (sortedFrom before) ⟨sortedFrom_injective before, sortedFrom_surjective before⟩, fun n => ?_, fun n => ?_, fun i j hij => ?_⟩
  · unfold Host.unstableSort2
    rw [dif_pos hd]
    exact (congrArg x (e _ _)).trans (congrArg (fun b => x (.ofFin (sortedFrom b n))) (hb _))
  · unfold Host.unstableSort2
    rw [dif_pos hd]
    exact (congrArg y (e _ _)).trans (congrArg (fun b => y (.ofFin (sortedFrom b n))) (hb _))
  · rcases Nat.lt_or_eq_of_le (Fin.le_def.1 hij) with h | h
    · have hs := unstableBefore_sorted ⟨1, ![N]⟩ 0 (fun l r : BitVec 32 × β => IntOp.cmpi .slt l.1 r.1) (fun k : Fin N => (x (.ofFin k), y (.ofFin k)))
        (fun a b h1 h2 => by rw [hc] at h1 h2; omega) (fun a b c h1 h2 h3 => by rw [Ne, hc] at h1 h2; rw [hc] at h3; omega) i j (Fin.lt_def.2 h)
      rw [Ne, hc] at hs
      have h1 := StableHlo.Predicate.toInt_eq_toNat_of_lt (hx (.ofFin (sortedFrom before i)))
      have h2 := StableHlo.Predicate.toInt_eq_toNat_of_lt (hx (.ofFin (sortedFrom before j)))
      change ¬ (x (.ofFin (sortedFrom before j))).toInt < (x (.ofFin (sortedFrom before i))).toInt at hs
      show (x (.ofFin (sortedFrom before i))).toNat ≤ (x (.ofFin (sortedFrom before j))).toNat
      omega
    · rw [Fin.ext h]

/-- A rearrangement of the positions along which the rows ascend (a row being `B` positions) leaves every position's row as it was. -/
theorem same_row {N : ℕ} (B : ℕ) (σ : Equiv.Perm (Fin N)) (h : Monotone fun n => (σ n).val / B) (n : Fin N) : (σ n).val / B = n.val / B := by
  have hp : ((List.finRange N).map fun j => (σ j).val / B).Perm ((List.finRange N).map fun j => j.val / B) := by
    have := (Equiv.Perm.map_finRange_perm σ).map fun j : Fin N => j.val / B
    rwa [List.map_map] at this
  have hs : ∀ f : Fin N → ℕ, Monotone f → ((List.finRange N).map f).Pairwise (· ≤ ·) := fun f hf =>
    List.pairwise_map.2 ((List.pairwise_lt_finRange N).imp fun hab => hf (Fin.le_of_lt hab))
  have he := hp.eq_of_pairwise (fun a b _ _ h1 h2 => Nat.le_antisymm h1 h2) (hs _ h) (hs _ fun _ _ hij => Nat.div_le_div_right (Fin.le_def.1 hij))
  exact List.map_inj_left.1 he n (List.mem_finRange n)

/-- Among the positions of which something holds, if there are any, there is a last one. -/
theorem exists_last {N : ℕ} (P : Fin N → Prop) (h : ∃ n, P n) : ∃ n, P n ∧ ∀ j, n < j → ¬ P j := by
  obtain ⟨n, hn, hl⟩ := (wellFounded_gt (α := Fin N)).has_min {n | P n} h
  exact ⟨n, hn, fun j hj hP => hl j hP hj⟩

end Cert.Order
-- ==== Proof.Keys.lean ====
/- What the drawing holds, read off sorted keys: at a place some key names, the value of the last such key; zero elsewhere. -/
module

public import proofs.«01_k».proof.Proof.Setup
public import proofs.«01_k».proof.Proof.Order

@[expose] public section

noncomputable section

namespace Cert.Proof.Unpool

open Cert.KernelIdeal Cert.Paint
open Idealize.ShloMosaic

variable {F : FTy → Type} [FloatOps F]
variable (k : S19267584.Idx → BitVec 32) (v : S19267584.Idx → F .f32)

/-- The keys ascend, and every key names a place of the plane of its own row. -/
structure RowSorted : Prop where
  row : ∀ n : Fin 19267584, (k (.ofFin n)).toNat / 50176 = n.val / 12544
  mono : Monotone fun n : Fin 19267584 => (k (.ofFin n)).toNat

/-- An entry at a position inside the array is the array there. -/
theorem entry_ofFin {D : ℕ} (hD : 0 < D) {α : Type} (f : (⟨1, ![D]⟩ : Shape).Idx → α) (n : Fin D) : entry hD f n.val = f (.ofFin n) := by
  unfold entry
  refine congrArg f (funext fun a => ?_)
  match a with
  | ⟨0, _⟩ => exact Fin.ext (Nat.mod_eq_of_lt n.isLt)

/-- A row's key inside the row is the key at that position of the whole. -/
theorem rowKey_of_lt {r n : ℕ} (hr : r < 1536) (hn : n < 12544) :
    rowKey k r n = k (.ofFin ⟨r * 12544 + n, by omega⟩) := by
  unfold rowKey
  rw [if_pos hn]
  exact entry_ofFin _ k ⟨r * 12544 + n, by omega⟩

variable {k}

/-- The place a row's key names, once the keys are known to name places of their own rows. -/
theorem RowSorted.pos (h : RowSorted k) {r n : ℕ} (hr : r < 1536) (hn : n < 12544) :
    rowPos k r n + r * 50176 = (k (.ofFin ⟨r * 12544 + n, by omega⟩)).toNat ∧ rowPos k r n < 50176 := by
  have hrow := h.row ⟨r * 12544 + n, by omega⟩
  have e : (r * 12544 + n) / 12544 = r := by omega
  rw [Fin.val_mk, e] at hrow
  unfold rowPos
  rw [rowKey_of_lt k hr hn]
  generalize k (.ofFin ⟨r * 12544 + n, by omega⟩) = w at hrow ⊢
  have hw := w.isLt
  rw [BitVec.toNat_sub, BitVec.toNat_ofNat]
  omega

/-- Keys that ascend row by row name places inside their rows' planes. -/
theorem RowSorted.inRows (h : RowSorted k) : InRows k := fun _ hr _ hn => (h.pos hr hn).2

variable {v}

/-- At a place some key names, the drawing holds the value of the last key that names it. -/
theorem RowSorted.result_hit (h : RowSorted k) (p : S77070336.Idx) (n : Fin 19267584) (hn : (k (.ofFin n)).toNat = (p 0).val)
    (hlast : ∀ j, n < j → (k (.ofFin j)).toNat ≠ (p 0).val) : result k v p = v (.ofFin n) := by
  have hp : (p 0).val < 77070336 := (p 0).isLt
  have hrow := h.row n
  rw [hn] at hrow
  generalize hr : (p 0).val / 50176 = r at hrow
  have hr' : r < 1536 := by omega
  obtain ⟨q, hq⟩ : ∃ q, n.val = r * 12544 + q := ⟨n.val - r * 12544, by omega⟩
  have hq' : q < 12544 := by omega
  have en : n = ⟨r * 12544 + q, by omega⟩ := Fin.ext hq
  unfold result drawn
  rw [hr, paint_last (k := q) hq' ?_ ?_ ?_]
  · unfold rowVal
    rw [← hq]
    exact entry_ofFin _ v n
  · unfold rowKeep
    rw [bne_iff_ne]
    intro e
    rw [rowKey_of_lt k hr' hq', ← en] at e
    by_cases hq1 : q + 1 < 12544
    · rw [rowKey_of_lt k hr' hq1] at e
      exact hlast ⟨r * 12544 + (q + 1), by omega⟩ (Fin.lt_def.2 (by simp only []; omega)) (by rw [← e]; exact hn)
    · unfold rowKey at e
      rw [if_neg hq1] at e
      rw [e] at hn
      have : (4294967295#32).toNat = 4294967295 := by decide
      omega
  · have := (h.pos hr' hq').1
    rw [← en] at this
    omega
  · intro j hqj hj _ e
    have hpos := (h.pos hr' hj).1
    exact hlast ⟨r * 12544 + j, by omega⟩ (Fin.lt_def.2 (by simp only []; omega)) (by omega)

/-- At a place no key names, the drawing holds zero. -/
theorem RowSorted.result_miss (h : RowSorted k) (p : S77070336.Idx) (hno : ∀ n : Fin 19267584, (k (.ofFin n)).toNat ≠ (p 0).val) :
    result k v p = zero := by
  have hp : (p 0).val < 77070336 := (p 0).isLt
  unfold result drawn
  refine paint_untouched fun j hj _ e => ?_
  have hpos := (h.pos (show (p 0).val / 50176 < 1536 by omega) hj).1
  exact hno ⟨(p 0).val / 50176 * 12544 + j, by omega⟩ (by omega)

end Cert.Proof.Unpool
-- ==== Proof.Places.lean ====
/- The places the host computes from the indices, their sort, and what the sorted keys and values are. -/
module

public import proofs.«01_k».proof.Proof.Keys
public import proofs.«01_k».proof.Proof.Gen.KernelIdeal
public import Idealize.ShloMosaic.Lib.Pointwise.Reshape

@[expose] public section

noncomputable section

namespace Cert.Proof.Unpool

open Cert.KernelIdeal Cert.KernelIdeal.Gen
open Idealize.ShloMosaic
open Idealize.ShloMosaic.ValueIdx (ix2)
open Idealize.ShloMosaic.StableHlo.Predicate (ij ixP)

variable {F : FTy → Type} [FloatOps F]
variable (x : S2x768x112x112.Idx → F .f32) (i : S2x768x112x112.Idx → BitVec 32)

/-- An input laid out as rows, one row for each plane; -/
def rows {α : Type} (f : S2x768x112x112.Idx → α) : S1536x12544.Idx → α := shapeCast S1536x12544 f shapeCasts_S2x768x112x112_S1536x12544
/-- each row's first place in the whole result; -/
def bases : IVec S1536x12544 32 :=
  broadcastInDim S1536x12544 ![0, 1] bcast_S1536x1_S1536x12544_0_1
    (muli (broadcastInDim S1536x1 ![0] bcast_S1536_S1536x1_0 (iotaInDim S1536 32 0)) (broadcastInDim S1536x1 ![] bcast_S_S1536x1 (constantI S_ 32 50176#32)))
/-- the place in the whole result every index names, in one list; -/
def places : IVec S19267584 32 := shapeCast S19267584 (addi (rows i) bases) shapeCasts_S1536x12544_S19267584
/-- the inputs in one list; -/
def inputs : S19267584.Idx → F .f32 := shapeCast S19267584 x shapeCasts_S2x768x112x112_S19267584
/-- the places in the order of the host's sort; -/
def sortedKeys : S19267584.Idx → BitVec 32 := (Host.unstableSort2 S19267584 0 comparator_i32_f32_d0 (places i) (inputs x)).1
/-- the inputs in that order. -/
def sortedVals : S19267584.Idx → F .f32 := (Host.unstableSort2 S19267584 0 comparator_i32_f32_d0 (places i) (inputs x)).2

/-- Every index names a place of its plane. -/
def InPlane : Prop := ∀ j, (i j).toNat < 50176

variable {i}

theorem InPlane.rows (h : InPlane i) (j : S1536x12544.Idx) : (rows i j).toNat < 50176 := h _

/-- The row and the place in the row of position `j` of the list. -/
abbrev rowOf (j : Fin 19267584) : Fin 1536 := ⟨j.val / 12544, by have := j.isLt; omega⟩
abbrev colOf (j : Fin 19267584) : Fin 12544 := ⟨j.val % 12544, Nat.mod_lt _ (by decide)⟩

/-- A list cut from rows holds at position `j` the entry of `j`'s row. -/
theorem cut_apply {α : Type} (f : S1536x12544.Idx → α) (j : Fin 19267584) :
    shapeCast S19267584 f shapeCasts_S1536x12544_S19267584 (.ofFin j) = f (ij (rowOf j) (colOf j)) := by
  refine shapeCast_apply f _ _ _ ?_
  rw [Shape.rowMajor_val_two, Shape.rowMajor_val_one]
  show j.val / 12544 * 12544 + j.val % 12544 = j.val
  omega

/-- Row `r`'s first place. -/
theorem bases_apply (r : Fin 1536) (c : Fin 12544) : bases (ij r c) = BitVec.ofNat 32 r.val * 50176#32 := by
  unfold bases
  rw [StableHlo.Predicate.bcast_of_col]
  show IntOp.muli (broadcastInDim S1536x1 ![0] bcast_S1536_S1536x1_0 (iotaInDim S1536 32 0) (ixP r)) _ = _
  rw [StableHlo.Predicate.bcast_col1, StableHlo.Predicate.iota_apply]
  rfl

theorem inputs_apply (j : Fin 19267584) : inputs x (.ofFin j) = rows x (ij (rowOf j) (colOf j)) := by
  rw [← cut_apply (rows x) j]
  unfold inputs rows
  rw [shapeCast_comp]

/-- The place position `j` of the list names, as a number: its index, in the plane of its row. -/
theorem places_toNat (h : InPlane i) (j : Fin 19267584) :
    (places i (.ofFin j)).toNat = (rows i (ij (rowOf j) (colOf j))).toNat + j.val / 12544 * 50176 := by
  have hj := j.isLt
  have hr := h.rows (ij (rowOf j) (colOf j))
  unfold places
  rw [cut_apply]
  show (rows i (ij (rowOf j) (colOf j)) + bases (ij (rowOf j) (colOf j))).toNat = _
  rw [bases_apply, BitVec.toNat_add, BitVec.toNat_mul, BitVec.toNat_ofNat, BitVec.toNat_ofNat]
  show ((rows i (ij (rowOf j) (colOf j))).toNat + j.val / 12544 % 2 ^ 32 * (50176 % 2 ^ 32) % 2 ^ 32) % 2 ^ 32 = _
  omega

/-- Every index of a list is a position. -/
theorem idx_ofFin {N : ℕ} (p : (⟨1, ![N]⟩ : Shape).Idx) : ∃ n : Fin N, p = .ofFin n := by
  refine ⟨p 0, funext fun a => ?_⟩
  match a with
  | ⟨0, _⟩ => rfl

/-- The sorted keys and values are the places and inputs rearranged, and the keys ascend row by row. -/
theorem sorted_reads (h : InPlane i) :
    ∃ σ : Equiv.Perm (Fin 19267584), (∀ n, sortedKeys x i (.ofFin n) = places i (.ofFin (σ n)))
      ∧ (∀ n, sortedVals x i (.ofFin n) = inputs x (.ofFin (σ n))) ∧ RowSorted (sortedKeys x i) := by
  have hp : ∀ j, (places i j).toNat < 2 ^ 31 := fun j => by
    obtain ⟨n, rfl⟩ := idx_ofFin j
    rw [places_toNat h]
    have h1 := h.rows (ij (rowOf n) (colOf n))
    have h2 := n.isLt
    omega
  obtain ⟨σ, hk, hv, hm⟩ := Order.sort_reads (places i) (inputs x) hp
  have hk' : ∀ n, sortedKeys x i (.ofFin n) = places i (.ofFin (σ n)) := hk
  have hrow : ∀ j : Fin 19267584, (places i (.ofFin j)).toNat / 50176 = j.val / 12544 := fun j => by
    rw [places_toNat h]
    have h1 := h.rows (ij (rowOf j) (colOf j))
    omega
  refine ⟨σ, hk', hv, ⟨fun n => ?_, fun a b hab => ?_⟩⟩
  · rw [hk', hrow]
    exact Order.same_row 12544 σ (fun a b hab => by
      have := Nat.div_le_div_right (c := 50176) (hm hab)
      rwa [hrow, hrow] at this) n
  · show (sortedKeys x i (.ofFin a)).toNat ≤ (sortedKeys x i (.ofFin b)).toNat
    rw [hk', hk']
    exact hm hab

end Cert.Proof.Unpool
-- ==== Proof.Group.lean ====
/- One group of sixteen entries: the loads and the masked indexed store that lay them on the plane, and the load and
   the store that wipe them away. -/
module

public import proofs.«01_k».proof.Proof.Setup

@[expose] public section

noncomputable section

namespace Cert.Proof.Unpool

open Cert.KernelIdeal Cert.KernelIdeal.Gen Cert.Paint

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The plane's buffer holds `g`, by place. -/
abbrev planeAt (g : ℕ → F .f32) : sProp 𝕄 :=
  (sP.view.loc (thr d L) ↦{fullShare} ((fun x => g (x 0).val : S50176.Idx → F .f32) : Buf (Elt F) (sP.view.loc (thr d L))))

/-- A vector of sixteen read off a buffer at offset `n` is its entries `n … n + 15`: buffer contents `f` of length `D`
    that hold `g`, by place. -/
def Holds {D : ℕ} {e : EltTy} (M : Memref sig .scVector .vmem ⟨1, ![D]⟩ e) (f : Buf (Elt F) (M.view.loc (thr d L))) (g : ℕ → Elt F e) : Prop :=
  ∀ (off : Fin 1 → ℕ) (h : ∀ a, off a + S16.size a ≤ (⟨1, ![D]⟩ : Shape).size a) (x : S16.Idx),
    M.view.readAt (Elt F) (Rect.unit (s := ⟨1, ![D]⟩) off S16.size h).toLoadRect f x = g (off 0 + (x 0).val)

/-- The indexed store of a group carries the plane from one picture to the next. -/
theorem wp_paint {keep : ℕ → Bool} {pos : ℕ → ℕ} {val : ℕ → F .f32} {init : ℕ → F .f32} {n : ℕ}
    {idx : IVec S16 32} {v : Vec F S16 .f32} {mask : IVec S16 1}
    {h : ∀ a x, ((![idx] : Fin 1 → IVec S16 32) a x).toNat < S50176.size a} {hs : (sP.access (.whole S50176)).Stores Finset.univ}
    (hpos : ∀ x, (idx x).toNat = pos (n + (x 0).val)) (hval : ∀ x, v x = val (n + (x 0).val))
    (hmask : ∀ x, mask x = 1 ↔ keep (n + (x 0).val) = true)
    {α : Type} {k : PUnit → Prog (TpuEff nD τ sig (Elt F) Λ₀ (thr d L).2) α} {Q : α → sProp 𝕄} :
    planeAt d L (paint keep pos val init n)
      ⊢ iprop((planeAt d L (paint keep pos val init (n + 16)) -∗ wp frame (wpE (defs₀ (F := F)) 𝒱₀ (thr d L) none) Set.univ (k ⟨⟩) Q)
        -∗ wp frame (wpE (defs₀ (F := F)) 𝒱₀ (thr d L) none) Set.univ
            (SparseCore.vectorStoreIdx sP ![idx] v mask false h hs >>= k) Q) := by
  have hS := SparseCore.wp_vectorStoreIdx (defs := defs₀ (F := F)) (c := thr d L) 𝒱₀ none Set.univ (base := sP) (idxs := ![idx]) (v := v)
    (mask := mask) (add := false) (h := h) (hs := hs) (k := k) (Q := Q)
    (f := ((fun x => paint keep pos val init n (x 0).val : S50176.Idx → F .f32) : Buf (Elt F) (sP.view.loc (thr d L))))
  rw [show (sP.access (Rect.whole S50176)).set = Finset.univ from Memref.set_access_whole cc0_scratch4,
    show View.read (Elt F) (sP.access (Rect.whole S50176)) (fun x => paint keep pos val init n (x 0).val : S50176.Idx → F .f32) = _
      from Memref.read_access_whole (Elt F) cc0_scratch4 _,
    show View.write (Elt F) (sP.access (Rect.whole S50176)) (fun x => paint keep pos val init n (x 0).val : S50176.Idx → F .f32) _ Finset.univ = _
      from Memref.write_access_whole_univ (Elt F) cc0_scratch4 _ _] at hS
  have hP := storeIdx_paint (D := ![50176]) (d := ![16]) (e := .f32) (keep := keep) (pos := pos) (val := val) (init := init) (n := n)
    (idxs := ![idx]) (v := v) (mask := mask) (h := h) (fun l => hpos _) (fun l => hval _) (fun l => hmask _)
  rw [show storeIdx (s := S50176) (fun x => paint keep pos val init n (x 0).val : S50176.Idx → F .f32) ![idx] v mask false h
      = fun x => paint keep pos val init (n + 16) (x 0).val from hP] at hS
  exact hS

/-- One group of sixteen entries laid down: two loads of the keys, one place apart, a load of the values, and the store
    of those whose next key differs. -/
theorem wp_lay {Dk Dv : ℕ} {Mk : Memref sig .scVector .vmem ⟨1, ![Dk]⟩ .i32} {Mv : Memref sig .scVector .vmem ⟨1, ![Dv]⟩ .f32}
    {k : S19267584.Idx → BitVec 32} {v : S19267584.Idx → F .f32} {r n : ℕ}
    {fk : Buf (Elt F) (Mk.view.loc (thr d L))} {fv : Buf (Elt F) (Mv.view.loc (thr d L))}
    {o₁ o₂ o₃ : Fin 1 → ℕ} {i₁ : ∀ a, o₁ a + S16.size a ≤ (⟨1, ![Dk]⟩ : Shape).size a} {i₂ : ∀ a, o₂ a + S16.size a ≤ (⟨1, ![Dk]⟩ : Shape).size a}
    {i₃ : ∀ a, o₃ a + S16.size a ≤ (⟨1, ![Dv]⟩ : Shape).size a}
    {l₁ : Mk.view.LoadsAt (Rect.unit (s := ⟨1, ![Dk]⟩) o₁ S16.size i₁).toLoadRect} {l₂ : Mk.view.LoadsAt (Rect.unit (s := ⟨1, ![Dk]⟩) o₂ S16.size i₂).toLoadRect}
    {l₃ : Mv.view.LoadsAt (Rect.unit (s := ⟨1, ![Dv]⟩) o₃ S16.size i₃).toLoadRect}
    {P : IVec S16 32 → Prop} {dec : ∀ i, Decidable (P i)} {sb : IVec S16 32 → IVec S16 32} {mk : IVec S16 32 → IVec S16 32 → IVec S16 1}
    {inb : ∀ i, P i → ∀ a x, ((![i] : Fin 1 → IVec S16 32) a x).toNat < S50176.size a} {hs : (sP.access (.whole S50176)).Stores Finset.univ}
    (hk : InRows k) (hr : r < 1536) (hn : n + 16 ≤ 12544) (hfk : Holds d L Mk fk (rowKey k r)) (hfv : Holds d L Mv fv (rowVal v r))
    (hsb : ∀ a x, sb a x = a x - BitVec.ofNat 32 (r * 50176)) (hmk : ∀ a b x, mk a b x = cmpi .ne a b x)
    (h₁ : o₁ 0 = n) (h₂ : o₂ 0 = n + 1) (h₃ : o₃ 0 = n) (hP : ∀ i, (∀ a x, ((![i] : Fin 1 → IVec S16 32) a x).toNat < S50176.size a) → P i)
    {α : Type} {κ : PUnit → Prog (TpuEff nD τ sig (Elt F) Λ₀ (thr d L).2) α} {Q : α → sProp 𝕄} :
    iprop(planeAt d L (drawn k v r n) ∗ (Mk.view.loc (thr d L) ↦{fullShare} fk) ∗ (Mv.view.loc (thr d L) ↦{fullShare} fv))
      ⊢ iprop((iprop(planeAt d L (drawn k v r (n + 16)) ∗ (Mk.view.loc (thr d L) ↦{fullShare} fk) ∗ (Mv.view.loc (thr d L) ↦{fullShare} fv))
          -∗ wp frame (wpE (defs₀ (F := F)) 𝒱₀ (thr d L) none) Set.univ (κ ⟨⟩) Q)
        -∗ wp frame (wpE (defs₀ (F := F)) 𝒱₀ (thr d L) none) Set.univ
            (.op (.load Mk (Rect.unit (s := ⟨1, ![Dk]⟩) o₁ S16.size i₁).toLoadRect l₁) fun (a : Vec F S16 .i32) =>
              .op (.load Mk (Rect.unit (s := ⟨1, ![Dk]⟩) o₂ S16.size i₂).toLoadRect l₂) fun (b : Vec F S16 .i32) =>
              .op (.load Mv (Rect.unit (s := ⟨1, ![Dv]⟩) o₃ S16.size i₃).toLoadRect l₃) fun (c : Vec F S16 .f32) =>
              .op (.assume (P (sb a)) (dec (sb a))) fun w =>
              SparseCore.vectorStoreIdx sP ![sb a] c (mk a b) false (inb (sb a) w.down) hs >>= κ) Q) := by
  unfold drawn
  iintro ⟨Hp, Hk, Hv⟩ HQ
  iapply (wp_load 𝒱₀ (thr d L) none Set.univ (m := Mk) (S := Finset.univ) (Finset.subset_univ _)) $$ Hk; iintro Hk
  iapply (wp_load 𝒱₀ (thr d L) none Set.univ (m := Mk) (S := Finset.univ) (Finset.subset_univ _)) $$ Hk; iintro Hk
  iapply (wp_load 𝒱₀ (thr d L) none Set.univ (m := Mv) (S := Finset.univ) (Finset.subset_univ _)) $$ Hv; iintro Hv
  have hpos : ∀ x, (sb (Mk.view.readAt (Elt F) (Rect.unit (s := ⟨1, ![Dk]⟩) o₁ S16.size i₁).toLoadRect fk) x).toNat = rowPos k r (n + (x 0).val) := by
    intro x; rw [hsb, hfk, h₁]; rfl
  have hw : P (sb (Mk.view.readAt (Elt F) (Rect.unit (s := ⟨1, ![Dk]⟩) o₁ S16.size i₁).toLoadRect fk)) := by
    refine hP _ fun a x => ?_
    rw [Fin.eq_zero a]
    have hx : (x 0).val < 16 := (x 0).isLt
    exact (hpos x).trans_lt (hk r hr _ (by omega))
  rw [wp_assume_of _ _ _ _ hw]
  iapply (wp_paint d L (keep := rowKeep k r) (pos := rowPos k r) (val := rowVal v r) (init := fun _ => zero) (n := n) hpos
    (fun x => by rw [hfv, h₃])
    (fun x => by
      rw [hmk]
      show BitVec.ofBool (_ != _) = 1 ↔ _
      rw [hfk, hfk, h₁, h₂, show n + 1 + (x 0).val = n + (x 0).val + 1 by omega]
      unfold rowKeep
      cases rowKey k r (n + (x 0).val) != rowKey k r (n + (x 0).val + 1) <;> simp)) $$ Hp
  iintro Hp
  iapply HQ
  isplitl [Hp]
  · iexact Hp
  isplitl [Hk]
  · iexact Hk
  iexact Hv

/-- One group of sixteen entries wiped away: a load of the keys and the store of zeros. -/
theorem wp_wipe {Dk : ℕ} {Mk : Memref sig .scVector .vmem ⟨1, ![Dk]⟩ .i32}
    {k : S19267584.Idx → BitVec 32} {v : S19267584.Idx → F .f32} {r n : ℕ} {fk : Buf (Elt F) (Mk.view.loc (thr d L))}
    {o₁ : Fin 1 → ℕ} {i₁ : ∀ a, o₁ a + S16.size a ≤ (⟨1, ![Dk]⟩ : Shape).size a}
    {l₁ : Mk.view.LoadsAt (Rect.unit (s := ⟨1, ![Dk]⟩) o₁ S16.size i₁).toLoadRect}
    {P : IVec S16 32 → Prop} {dec : ∀ i, Decidable (P i)} {sb : IVec S16 32 → IVec S16 32} {z : Vec F S16 .f32}
    {inb : ∀ i, P i → ∀ a x, ((![i] : Fin 1 → IVec S16 32) a x).toNat < S50176.size a} {hs : (sP.access (.whole S50176)).Stores Finset.univ}
    (hk : InRows k) (hr : r < 1536) (hn : n + 16 ≤ 12544) (hfk : Holds d L Mk fk (rowKey k r))
    (hsb : ∀ a x, sb a x = a x - BitVec.ofNat 32 (r * 50176)) (hz : ∀ x, z x = zero)
    (h₁ : o₁ 0 = n) (hP : ∀ i, (∀ a x, ((![i] : Fin 1 → IVec S16 32) a x).toNat < S50176.size a) → P i)
    {α : Type} {κ : PUnit → Prog (TpuEff nD τ sig (Elt F) Λ₀ (thr d L).2) α} {Q : α → sProp 𝕄} :
    iprop(planeAt d L (wiped k v r n) ∗ (Mk.view.loc (thr d L) ↦{fullShare} fk))
      ⊢ iprop((iprop(planeAt d L (wiped k v r (n + 16)) ∗ (Mk.view.loc (thr d L) ↦{fullShare} fk))
          -∗ wp frame (wpE (defs₀ (F := F)) 𝒱₀ (thr d L) none) Set.univ (κ ⟨⟩) Q)
        -∗ wp frame (wpE (defs₀ (F := F)) 𝒱₀ (thr d L) none) Set.univ
            (.op (.load Mk (Rect.unit (s := ⟨1, ![Dk]⟩) o₁ S16.size i₁).toLoadRect l₁) fun (a : Vec F S16 .i32) =>
              .op (.assume (P (sb a)) (dec (sb a))) fun w =>
              SparseCore.vectorStoreIdx sP ![sb a] z (fun _ => 1#1) false (inb (sb a) w.down) hs >>= κ) Q) := by
  unfold wiped
  iintro ⟨Hp, Hk⟩ HQ
  iapply (wp_load 𝒱₀ (thr d L) none Set.univ (m := Mk) (S := Finset.univ) (Finset.subset_univ _)) $$ Hk; iintro Hk
  have hpos : ∀ x, (sb (Mk.view.readAt (Elt F) (Rect.unit (s := ⟨1, ![Dk]⟩) o₁ S16.size i₁).toLoadRect fk) x).toNat = rowPos k r (n + (x 0).val) := by
    intro x; rw [hsb, hfk, h₁]; rfl
  have hw : P (sb (Mk.view.readAt (Elt F) (Rect.unit (s := ⟨1, ![Dk]⟩) o₁ S16.size i₁).toLoadRect fk)) := by
    refine hP _ fun a x => ?_
    rw [Fin.eq_zero a]
    have hx : (x 0).val < 16 := (x 0).isLt
    exact (hpos x).trans_lt (hk r hr _ (by omega))
  rw [wp_assume_of _ _ _ _ hw]
  iapply (wp_paint d L (keep := fun _ => true) (pos := rowPos k r) (val := fun _ => zero) (init := drawn k v r 12544) (n := n) hpos
    hz (fun _ => by simp)) $$ Hp
  iintro Hp
  iapply HQ
  isplitl [Hp]
  · iexact Hp
  iexact Hk

/-- The plane matters only at its own places. -/
theorem planeAt_congr {g g' : ℕ → F .f32} (h : ∀ x < 50176, g x = g' x) : planeAt d L g = planeAt d L g' := by
  have e : (fun x => g (x 0).val : S50176.Idx → F .f32) = fun x => g' (x 0).val := funext fun x => h _ (x 0).isLt
  exact congrArg (fun f : S50176.Idx → F .f32 => (sP.view.loc (thr d L) ↦{fullShare} (f : Buf (Elt F) (sP.view.loc (thr d L))) : sProp 𝕄)) e

/-- The plane's first `n` places hold zero. -/
def zeroed (n : ℕ) : sProp 𝕄 := iprop(∃ g : ℕ → F .f32, ⌜∀ x < n, g x = zero⌝ ∗ planeAt d L g)

/-- Whatever the plane holds, its first no places hold zero. -/
theorem zeroed_zero (f : Buf (Elt F) (sP.view.loc (thr d L))) : (sP.view.loc (thr d L) ↦{fullShare} f) ⊢ zeroed (F := F) d L 0 := by
  have e : f = ((fun x => entry (D := 50176) (by decide) (f : S50176.Idx → F .f32) (x 0).val : S50176.Idx → F .f32) : Buf (Elt F) (sP.view.loc (thr d L))) := by
    funext x
    unfold entry
    refine congrArg (f : S50176.Idx → F .f32) (funext fun a => Fin.ext ?_)
    rw [Fin.eq_zero a]
    exact (Nat.mod_eq_of_lt (x 0).isLt).symm
  rw [e]
  unfold zeroed
  iintro H
  iexists (entry (D := 50176) (by decide) (f : S50176.Idx → F .f32))
  isplitr
  · ipureintro
    intro x hx; omega
  · iexact H

/-- One group of the plane zeroed: a load that is not read, and the store. -/
theorem wp_zero {n : ℕ} {o : Fin 1 → ℕ} {i₁ : ∀ a, o a + S16.size a ≤ S50176.size a}
    {l₁ : sP.view.LoadsAt (Rect.unit (s := S50176) o S16.size i₁).toLoadRect} {z : Vec F S16 .f32}
    {hs : (sP.access (Rect.unit (s := S50176) o S16.size i₁)).Stores Finset.univ} {hm : (Finset.univ : Finset S16.Idx) = Finset.univ ∨ _}
    (hz : ∀ x, z x = zero) (h₁ : o 0 = n)
    {α : Type} {κ : PUnit → Prog (TpuEff nD τ sig (Elt F) Λ₀ (thr d L).2) α} {Q : α → sProp 𝕄} :
    zeroed (F := F) d L n
      ⊢ iprop((zeroed (F := F) d L (n + 16) -∗ wp frame (wpE (defs₀ (F := F)) 𝒱₀ (thr d L) none) Set.univ (κ ⟨⟩) Q)
        -∗ wp frame (wpE (defs₀ (F := F)) 𝒱₀ (thr d L) none) Set.univ
            (.op (.load sP (Rect.unit (s := S50176) o S16.size i₁).toLoadRect l₁) fun _ =>
              .op (.store sP (Rect.unit (s := S50176) o S16.size i₁) z Finset.univ hs hm) κ) Q) := by
  unfold zeroed
  iintro ⟨%g, %hg, Hp⟩ HQ
  iapply (wp_load 𝒱₀ (thr d L) none Set.univ (m := sP) (S := Finset.univ) (Finset.subset_univ _)) $$ Hp; iintro Hp
  iapply (wp_store 𝒱₀ (thr d L) none Set.univ (m := sP) (r := Rect.unit (s := S50176) o S16.size i₁) (Mk := Finset.univ) (S := Finset.univ) (Finset.subset_univ _)) $$ Hp
  iintro Hp
  iapply HQ
  iexists (fun x => if n ≤ x ∧ x < n + 16 then zero else g x)
  isplitr
  · ipureintro
    intro x hx
    by_cases h : n ≤ x ∧ x < n + 16
    · exact if_pos h
    · exact (if_neg h).trans (hg x (by omega))
  · have e := View.write_whole_slice_unit (Val := Elt F) cc0_scratch4 o S16.size i₁
      ((fun x => g (x 0).val : S50176.Idx → F .f32) : cc0_scratch4.ty.Contents (Elt F)) z
    have e' : (updateSlice (s := S50176) (fun x => g (x 0).val : S50176.Idx → F .f32) z o ⟨rfl, i₁⟩)
        = fun x => if n ≤ (x 0).val ∧ (x 0).val < n + 16 then zero else g (x 0).val := by
      funext x
      unfold updateSlice
      simp only [Fin.forall_fin_one, h₁]
      split
      · next h => exact (hz _).trans (if_pos (show n ≤ (x 0).val ∧ (x 0).val < n + 16 from h)).symm
      · next h => exact (if_neg (show ¬ (n ≤ (x 0).val ∧ (x 0).val < n + 16) from h)).symm
    refine Entails.of_eq (congrArg (fun f : S50176.Idx → F .f32 => (sP.view.loc (thr d L) ↦{fullShare} (f : Buf (Elt F) (sP.view.loc (thr d L))) : sProp 𝕄))
      (e.trans e'))

end Cert.Proof.Unpool

end
-- ==== Proof.Trips.lean ====
/- One trip of each of the task's four row loops: sixteen groups laid down, or wiped away. -/
module

public import proofs.«01_k».proof.Proof.Group

@[expose] public section

noncomputable section

namespace Cert.Proof.Unpool

open Cert.KernelIdeal Cert.KernelIdeal.Gen Cert.Paint

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The first row's drawing loop, one trip: its entries `256 t … 256 t + 255` are laid down. -/
theorem t3_trip {k : S19267584.Idx → BitVec 32} {v : S19267584.Idx → F .f32} {r : ℕ} {v1 : BitVec 32} {v3 : IVec S16 32} {c0 c1 : BitVec 32} {t₂ : Fin k0_t2_loop.trips}
    {fk : Buf (Elt F) (sK0.view.loc (thr d L))} {fv : Buf (Elt F) (sV0.view.loc (thr d L))}
    (hk : InRows k) (hr : r < 1536) (hfk : Holds d L sK0 fk (rowKey k r)) (hfv : Holds d L sV0 fv (rowVal v r))
    (hb : ∀ x, k0_pay35 v1 c0 c1 t₂ x = BitVec.ofNat 32 (r * 50176)) (t : Fin k0_t3_loop.trips) :
    iprop(planeAt d L (drawn k v r (256 * t.val)) ∗ (sK0.view.loc (thr d L) ↦{fullShare} fk) ∗ (sV0.view.loc (thr d L) ↦{fullShare} fv))
      ⊢ wp frame (wpE (defs₀ (F := F)) 𝒱₀ (thr d L) none) Set.univ
          (k0_t3_body L vV (Memref.isWhole_whole _) kV (Memref.isWhole_whole _) oV (Memref.isWhole_whole _) sK0 (Memref.isWhole_whole _) sV0 (Memref.isWhole_whole _) sK1 (Memref.isWhole_whole _) sV1 (Memref.isWhole_whole _) sP (Memref.isWhole_whole _) cc0_scratch5 cc0_scratch6 cc0_scoped0 cc0_scoped1 v1 v3 c0 c1 t₂ t ())
          (fun _ => iprop(planeAt d L (drawn k v r (256 * (t.val + 1))) ∗ (sK0.view.loc (thr d L) ↦{fullShare} fk) ∗ (sV0.view.loc (thr d L) ↦{fullShare} fv))) := by
  have ht : t.val < 49 := t.isLt
  unfold k0_t3_body
  rw [k0_part3_eq_skeleton, k0_part4_eq_skeleton, k0_part5_eq_skeleton, k0_part6_eq_skeleton]
  unfold k0_part3_skel k0_part4_skel k0_part5_skel k0_part6_skel
  simp only [Prog.bind_assoc, Prog.bind_lift, Prog.bind_op, Prog.pure_eq_ret, Prog.bind_ret]
  iintro H
  iterate 16
    iapply (wp_lay d L (Mk := sK0) (Mv := sV0) (fk := fk) (fv := fv) (hs := View.stores_vmem_bits_univ h_S50176 rfl) hk hr ?_ hfk hfv ?_ ?_ ?_ ?_ ?_ ?_) $$ H
    · omega
    · exact fun a x => congrArg (a x - ·) (hb x)
    · exact fun _ _ _ => rfl
    iterate 3
      refine (congrFun ClosedOff.eq 0).trans ?_
      simp only [ClosedOff.form, Matrix.cons_val_zero]
    · exact fun _ h => h
    iintro H
  simp only [Nat.mul_add, Nat.mul_one, Nat.add_assoc, Nat.reduceAdd]
  sl_step
  iexact H

/-- The first row's wiping loop, one trip: its entries `256 t … 256 t + 255` are wiped away. -/
theorem t4_trip {k : S19267584.Idx → BitVec 32} {v : S19267584.Idx → F .f32} {r : ℕ} {v34 : IVec S16 32}
    {fk : Buf (Elt F) (sK0.view.loc (thr d L))}
    (hk : InRows k) (hr : r < 1536) (hfk : Holds d L sK0 fk (rowKey k r))
    (hb : ∀ x, v34 x = BitVec.ofNat 32 (r * 50176)) (t : Fin k0_t4_loop.trips) :
    iprop(planeAt d L (wiped k v r (256 * t.val)) ∗ (sK0.view.loc (thr d L) ↦{fullShare} fk))
      ⊢ wp frame (wpE (defs₀ (F := F)) 𝒱₀ (thr d L) none) Set.univ
          (k0_t4_body L vV (Memref.isWhole_whole _) kV (Memref.isWhole_whole _) oV (Memref.isWhole_whole _) sK0 (Memref.isWhole_whole _) sV0 (Memref.isWhole_whole _) sK1 (Memref.isWhole_whole _) sV1 (Memref.isWhole_whole _) sP (Memref.isWhole_whole _) cc0_scratch5 cc0_scratch6 cc0_scoped0 cc0_scoped1 v34 t ())
          (fun _ => iprop(planeAt d L (wiped k v r (256 * (t.val + 1))) ∗ (sK0.view.loc (thr d L) ↦{fullShare} fk))) := by
  have ht : t.val < 49 := t.isLt
  unfold k0_t4_body
  rw [k0_part7_eq_skeleton, k0_part8_eq_skeleton]
  unfold k0_part7_skel k0_part8_skel
  simp only [Prog.bind_assoc, Prog.bind_lift, Prog.bind_op, Prog.pure_eq_ret, Prog.bind_ret]
  iintro H
  iterate 16
    iapply (wp_wipe d L (Mk := sK0) (v := v) (fk := fk) (hs := View.stores_vmem_bits_univ h_S50176 rfl) hk hr ?_ hfk ?_ ?_ ?_ ?_) $$ H
    · omega
    · exact fun a x => congrArg (a x - ·) (hb x)
    · exact fun _ => rfl
    · refine (congrFun ClosedOff.eq 0).trans ?_
      simp only [ClosedOff.form, Matrix.cons_val_zero]
    · exact fun _ h => h
    iintro H
  simp only [Nat.mul_add, Nat.mul_one, Nat.add_assoc, Nat.reduceAdd]
  sl_step
  iexact H

/-- The second row's drawing loop, one trip. -/
theorem t5_trip {k : S19267584.Idx → BitVec 32} {v : S19267584.Idx → F .f32} {r : ℕ} {v9 : BitVec 32}
    {fk : Buf (Elt F) (sK1.view.loc (thr d L))} {fv : Buf (Elt F) (sV1.view.loc (thr d L))}
    (hk : InRows k) (hr : r < 1536) (hfk : Holds d L sK1 fk (rowKey k r)) (hfv : Holds d L sV1 fv (rowVal v r))
    (hb : ∀ x, k0_pay3 v9 x = BitVec.ofNat 32 (r * 50176)) (t : Fin k0_t5_loop.trips) :
    iprop(planeAt d L (drawn k v r (256 * t.val)) ∗ (sK1.view.loc (thr d L) ↦{fullShare} fk) ∗ (sV1.view.loc (thr d L) ↦{fullShare} fv))
      ⊢ wp frame (wpE (defs₀ (F := F)) 𝒱₀ (thr d L) none) Set.univ
          (k0_t5_body L vV (Memref.isWhole_whole _) kV (Memref.isWhole_whole _) oV (Memref.isWhole_whole _) sK0 (Memref.isWhole_whole _) sV0 (Memref.isWhole_whole _) sK1 (Memref.isWhole_whole _) sV1 (Memref.isWhole_whole _) sP (Memref.isWhole_whole _) cc0_scratch5 cc0_scratch6 cc0_scoped0 cc0_scoped1 v9 t ())
          (fun _ => iprop(planeAt d L (drawn k v r (256 * (t.val + 1))) ∗ (sK1.view.loc (thr d L) ↦{fullShare} fk) ∗ (sV1.view.loc (thr d L) ↦{fullShare} fv))) := by
  have ht : t.val < 49 := t.isLt
  unfold k0_t5_body
  rw [k0_part9_eq_skeleton, k0_part10_eq_skeleton, k0_part11_eq_skeleton, k0_part12_eq_skeleton]
  unfold k0_part9_skel k0_part10_skel k0_part11_skel k0_part12_skel
  simp only [Prog.bind_assoc, Prog.bind_lift, Prog.bind_op, Prog.pure_eq_ret, Prog.bind_ret]
  iintro H
  iterate 16
    iapply (wp_lay d L (Mk := sK1) (Mv := sV1) (fk := fk) (fv := fv) (hs := View.stores_vmem_bits_univ h_S50176 rfl) hk hr ?_ hfk hfv ?_ ?_ ?_ ?_ ?_ ?_) $$ H
    · omega
    · exact fun a x => congrArg (a x - ·) (hb x)
    · exact fun _ _ _ => rfl
    iterate 3
      refine (congrFun ClosedOff.eq 0).trans ?_
      simp only [ClosedOff.form, Matrix.cons_val_zero]
    · exact fun _ h => h
    iintro H
  simp only [Nat.mul_add, Nat.mul_one, Nat.add_assoc, Nat.reduceAdd]
  sl_step
  iexact H

/-- The second row's wiping loop, one trip. -/
theorem t6_trip {k : S19267584.Idx → BitVec 32} {v : S19267584.Idx → F .f32} {r : ℕ} {v9 : BitVec 32}
    {fk : Buf (Elt F) (sK1.view.loc (thr d L))}
    (hk : InRows k) (hr : r < 1536) (hfk : Holds d L sK1 fk (rowKey k r))
    (hb : ∀ x, k0_pay3 v9 x = BitVec.ofNat 32 (r * 50176)) (t : Fin k0_t6_loop.trips) :
    iprop(planeAt d L (wiped k v r (256 * t.val)) ∗ (sK1.view.loc (thr d L) ↦{fullShare} fk))
      ⊢ wp frame (wpE (defs₀ (F := F)) 𝒱₀ (thr d L) none) Set.univ
          (k0_t6_body L vV (Memref.isWhole_whole _) kV (Memref.isWhole_whole _) oV (Memref.isWhole_whole _) sK0 (Memref.isWhole_whole _) sV0 (Memref.isWhole_whole _) sK1 (Memref.isWhole_whole _) sV1 (Memref.isWhole_whole _) sP (Memref.isWhole_whole _) cc0_scratch5 cc0_scratch6 cc0_scoped0 cc0_scoped1 v9 t ())
          (fun _ => iprop(planeAt d L (wiped k v r (256 * (t.val + 1))) ∗ (sK1.view.loc (thr d L) ↦{fullShare} fk))) := by
  have ht : t.val < 49 := t.isLt
  unfold k0_t6_body
  rw [k0_part13_eq_skeleton, k0_part14_eq_skeleton]
  unfold k0_part13_skel k0_part14_skel
  simp only [Prog.bind_assoc, Prog.bind_lift, Prog.bind_op, Prog.pure_eq_ret, Prog.bind_ret]
  iintro H
  iterate 16
    iapply (wp_wipe d L (Mk := sK1) (v := v) (fk := fk) (hs := View.stores_vmem_bits_univ h_S50176 rfl) hk hr ?_ hfk ?_ ?_ ?_ ?_) $$ H
    · omega
    · exact fun a x => congrArg (a x - ·) (hb x)
    · exact fun _ => rfl
    · refine (congrFun ClosedOff.eq 0).trans ?_
      simp only [ClosedOff.form, Matrix.cons_val_zero]
    · exact fun _ h => h
    iintro H
  simp only [Nat.mul_add, Nat.mul_one, Nat.add_assoc, Nat.reduceAdd]
  sl_step
  iexact H

/-- The loop that zeroes the plane, one trip: sixteen groups. -/
theorem t1_trip (t : Fin k0_t1_loop.trips) :
    zeroed (F := F) d L (256 * t.val)
      ⊢ wp frame (wpE (defs₀ (F := F)) 𝒱₀ (thr d L) none) Set.univ
          (k0_t1_body L vV (Memref.isWhole_whole _) kV (Memref.isWhole_whole _) oV (Memref.isWhole_whole _) sK0 (Memref.isWhole_whole _) sV0 (Memref.isWhole_whole _) sK1 (Memref.isWhole_whole _) sV1 (Memref.isWhole_whole _) sP (Memref.isWhole_whole _) cc0_scratch5 cc0_scratch6 cc0_scoped0 cc0_scoped1 t ())
          (fun _ => zeroed (F := F) d L (256 * (t.val + 1))) := by
  unfold k0_t1_body
  rw [k0_part1_eq_skeleton, k0_part2_eq_skeleton]
  unfold k0_part1_skel k0_part2_skel
  simp only [Prog.bind_assoc, Prog.bind_lift, Prog.bind_op, Prog.pure_eq_ret, Prog.bind_ret]
  iintro H
  iterate 16
    iapply (wp_zero d L (hs := View.stores_vmem_bits_univ h_S16 rfl) ?_ ?_) $$ H
    · exact fun _ => rfl
    · refine (congrFun ClosedOff.eq 0).trans ?_
      simp only [ClosedOff.form, Matrix.cons_val_zero, Nat.add_assoc, Nat.reduceAdd, Nat.reduceMul, Nat.add_zero]
    iintro H
  simp only [Nat.mul_add, Nat.mul_one, Nat.add_assoc, Nat.reduceAdd]
  sl_step
  iexact H

end Cert.Proof.Unpool

end
-- ==== Proof.Rows.lean ====
/- The rows a trip reads and the planes it writes: the windows it copies between, and what their copies hold. -/
module

public import proofs.«01_k».proof.Proof.Group

@[expose] public section

noncomputable section

namespace Cert.Proof.Unpool

open Cert.KernelIdeal Cert.KernelIdeal.Gen Cert.Paint

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The windows -/

/-- The first row's keys and values, the second row's, and the two planes of the result, of trip `t`. -/
abbrev kW0 (t : Fin k0_t2_loop.trips) : Memref sig .scVector .hbm S12544 .i32 := kV.slice (Rect.unit (s := S19267584) (k0_off2 L t) S12544.size (k0_off2_inb L t)) (fun _ => rfl)
abbrev vW0 (t : Fin k0_t2_loop.trips) : Memref sig .scVector .hbm S12544 .f32 := vV.slice (Rect.unit (s := S19267584) (k0_off2 L t) S12544.size (k0_off2_inb L t)) (fun _ => rfl)
abbrev kW1 (t : Fin k0_t2_loop.trips) : Memref sig .scVector .hbm S12544 .i32 := kV.slice (Rect.unit (s := S19267584) (k0_off3 L t) S12544.size (k0_off3_inb L t)) (fun _ => rfl)
abbrev vW1 (t : Fin k0_t2_loop.trips) : Memref sig .scVector .hbm S12544 .f32 := vV.slice (Rect.unit (s := S19267584) (k0_off3 L t) S12544.size (k0_off3_inb L t)) (fun _ => rfl)
abbrev oW0 (t : Fin k0_t2_loop.trips) : Memref sig .scVector .hbm S50176 .f32 := oV.slice (Rect.unit (s := S77070336) (k0_off52 L t) S50176.size (k0_off52_inb L t)) (fun _ => rfl)
abbrev oW1 (t : Fin k0_t2_loop.trips) : Memref sig .scVector .hbm S50176 .f32 := oV.slice (Rect.unit (s := S77070336) (k0_off117 L t) S50176.size (k0_off117_inb L t)) (fun _ => rfl)

/-- The first row of trip `t`; the second is the next. -/
def row (t : Fin k0_t2_loop.trips) : ℕ := 48 * (2 * (L 1).val + (L 0).val) + 2 * t.val

theorem core_lt : (L 0).val < 2 := (L 0).isLt
theorem sub_lt : (L 1).val < 16 := (L 1).isLt
theorem trip_lt (t : Fin k0_t2_loop.trips) : t.val < 24 := t.isLt

theorem row_lt (t : Fin k0_t2_loop.trips) : row L t + 1 < 1536 := by
  have := core_lt L; have := sub_lt L; have := trip_lt t
  unfold row; omega

/-- Where the windows start. -/
theorem off2_row (t : Fin k0_t2_loop.trips) : k0_off2 L t 0 = row L t * 12544 := by
  rw [congrFun (k0_off2_eq L t) 0]; unfold row; simp only [Matrix.cons_val_zero]; ring
theorem off3_row (t : Fin k0_t2_loop.trips) : k0_off3 L t 0 = (row L t + 1) * 12544 := by
  rw [congrFun (k0_off3_eq L t) 0]; unfold row; simp only [Matrix.cons_val_zero]; ring
theorem off52_row (t : Fin k0_t2_loop.trips) : k0_off52 L t 0 = row L t * 50176 := by
  rw [congrFun (k0_off52_eq L t) 0]; unfold row; simp only [Matrix.cons_val_zero]; ring
theorem off117_row (t : Fin k0_t2_loop.trips) : k0_off117 L t 0 = (row L t + 1) * 50176 := by
  rw [congrFun (k0_off117_eq L t) 0]; unfold row; simp only [Matrix.cons_val_zero]; ring

/-! ## What is read through them -/

/-- An entry of a vector read where its place is spelt out. -/
theorem entry_eq {α : Type} {D : ℕ} (hD : 0 < D) (f : (⟨1, ![D]⟩ : Shape).Idx → α) {n : ℕ} (y : (⟨1, ![D]⟩ : Shape).Idx) (h : (y 0).val = n) :
    entry hD f n = f y := by
  unfold entry
  refine congrArg f (funext fun a => Fin.ext ?_)
  rw [Fin.eq_zero a]
  subst h
  exact Nat.mod_eq_of_lt (y 0).isLt

/-- A key window of row `r` holds the row's keys. -/
theorem read_keys {k : S19267584.Idx → BitVec 32} {o : Fin 1 → ℕ} {i : ∀ a, o a + S12544.size a ≤ S19267584.size a} {r : ℕ} (ho : o 0 = r * 12544)
    (x : S12544.Idx) :
    (kV.slice (Rect.unit (s := S19267584) o S12544.size i) (fun _ => rfl)).view.read (Elt F) k x = rowKey k r (x 0).val := by
  have hx : (x 0).val < 12544 := (x 0).isLt
  unfold rowKey
  rw [if_pos hx]
  refine (entry_eq (D := 19267584) (by decide) k ((Rect.unit (s := S19267584) o S12544.size i).emb x) ?_).symm
  show o 0 + 1 * (x 0).val = _
  rw [ho, Nat.one_mul]

/-- A value window of row `r` holds the row's values. -/
theorem read_vals {v : S19267584.Idx → F .f32} {o : Fin 1 → ℕ} {i : ∀ a, o a + S12544.size a ≤ S19267584.size a} {r : ℕ} (ho : o 0 = r * 12544)
    (x : S12544.Idx) :
    (vV.slice (Rect.unit (s := S19267584) o S12544.size i) (fun _ => rfl)).view.read (Elt F) v x = rowVal v r (x 0).val := by
  refine (entry_eq (D := 19267584) (by decide) v ((Rect.unit (s := S19267584) o S12544.size i).emb x) ?_).symm
  show o 0 + 1 * (x 0).val = _
  rw [ho, Nat.one_mul]

/-- The index of a vector that names place `n`. -/
def place {D : ℕ} (n : ℕ) (h : n < D) : (⟨1, ![D]⟩ : Shape).Idx := fun a => ⟨n, by rw [Fin.eq_zero a]; exact h⟩

/-- A key buffer with a row's keys in front and the mark behind them holds the row. -/
theorem holds_keys {M : Memref sig .scVector .vmem S12560 .i32} {f : Buf (Elt F) (M.view.loc (thr d L))} {w : S12544.Idx → BitVec 32}
    {k : S19267584.Idx → BitVec 32} {r : ℕ} {i₁ : ∀ a, (![12544] : Fin 1 → ℕ) a + S16.size a ≤ S12560.size a}
    {i₂ : ∀ a, (![0] : Fin 1 → ℕ) a + S12544.size a ≤ S12560.size a} (hw : ∀ x, w x = rowKey k r (x 0).val) :
    Holds d L M (M.view.writes (Elt F) f [⟨Rect.unit (s := S12560) ![12544] S16.size i₁, k0_pay2⟩, ⟨Rect.unit (s := S12560) ![0] S12544.size i₂, w⟩])
      (rowKey k r) := by
  intro o h x
  rw [View.readAt_apply]
  have hy : (((Rect.unit (s := S12560) o S16.size h).toLoadRect.idx x) 0).val = o 0 + (x 0).val := by
    show o 0 + 1 * (x 0).val = _
    rw [Nat.one_mul]
  have hlt : o 0 + (x 0).val < 12560 := hy ▸ (((Rect.unit (s := S12560) o S16.size h).toLoadRect.idx x) 0).isLt
  by_cases hb : o 0 + (x 0).val < 12544
  · rw [View.read_writes_cons_miss_of_axis _ _ _ _ _ 0 12544 16 rfl rfl rfl (.inl (hy ▸ hb)),
      View.read_writes_cons_hit_of_coords _ _ _ _ _ (place (o 0 + (x 0).val) hb) _ (fun a => by
        rw [Fin.eq_zero a, hy]
        show _ = 0 + 1 * (o 0 + (x 0).val)
        rw [Nat.zero_add, Nat.one_mul])]
    exact hw _
  · rw [View.read_writes_cons_hit_of_coords _ _ _ _ _ (place (o 0 + (x 0).val - 12544) (by omega)) _ (fun a => by
        rw [Fin.eq_zero a, hy]
        show _ = 12544 + 1 * (o 0 + (x 0).val - 12544)
        omega)]
    unfold rowKey
    rw [if_neg hb]
    rfl

/-- A value buffer with a row's values in it holds the row's values. -/
theorem holds_vals {M : Memref sig .scVector .vmem S12544 .f32} {f : Buf (Elt F) (M.view.loc (thr d L))} {w : S12544.Idx → F .f32} {g : ℕ → F .f32}
    (hw : ∀ x, w x = g (x 0).val) : Holds d L M (M.view.write (Elt F) f w Finset.univ) g := by
  intro o h x
  rw [View.readAt_apply, View.read_write_univ, hw]
  show g (o 0 + 1 * (x 0).val) = _
  rw [Nat.one_mul]

/-! ## What is written through them -/

/-- A window held outright, the array it lies in holding `f`. -/
abbrev window {sp : Space} {s : Shape} {e : EltTy} (M : Memref sig .scVector sp s e) (f : Buf (Elt F) (M.view.loc (thr d L))) : sProp 𝕄 :=
  (M.view.loc (thr d L) ↦[M.view.set]{fullShare} f)

/-- A plane of the result that the full drawing was copied to holds the result. -/
theorem window_result {k : S19267584.Idx → BitVec 32} {v : S19267584.Idx → F .f32} {o : Fin 1 → ℕ} {i : ∀ a, o a + S50176.size a ≤ S77070336.size a}
    {f : S77070336.Idx → F .f32} {w : S50176.Idx → F .f32} {r : ℕ} (ho : o 0 = r * 50176) (hw : ∀ x, w x = drawn k v r 12544 (x 0).val) :
    window d L (oV.slice (Rect.unit (s := S77070336) o S50176.size i) (fun _ => rfl))
        ((oV.slice (Rect.unit (s := S77070336) o S50176.size i) (fun _ => rfl)).view.writes (Elt F) f [⟨Rect.whole S50176, w⟩])
      = window d L (oV.slice (Rect.unit (s := S77070336) o S50176.size i) (fun _ => rfl)) (result k v) := by
  refine pointsTo_congr fun j hj => ?_
  obtain ⟨x, -, rfl⟩ := Finset.mem_map.mp hj
  have hw' : (oV.slice (Rect.unit (s := S77070336) o S50176.size i) (fun _ => rfl)).view.emb x
      = ((oV.slice (Rect.unit (s := S77070336) o S50176.size i) (fun _ => rfl)).view.slice (Rect.whole S50176)).emb x :=
    congrArg (oV.slice (Rect.unit (s := S77070336) o S50176.size i) (fun _ => rfl)).view.emb (Rect.emb_whole_apply S50176 x).symm
  rw [View.writes_singleton, hw', View.write_emb_of_mem _ _ (Finset.mem_univ _), ← hw']
  show w x = result k v ((Rect.unit (s := S77070336) o S50176.size i).emb x)
  have hx : (x 0).val < 50176 := (x 0).isLt
  have e : (((Rect.unit (s := S77070336) o S50176.size i).emb x) 0).val = r * 50176 + (x 0).val := by
    show o 0 + 1 * (x 0).val = _
    rw [ho, Nat.one_mul]
  unfold result
  rw [hw, e, show (r * 50176 + (x 0).val) / 50176 = r by omega, show (r * 50176 + (x 0).val) % 50176 = (x 0).val by omega]

/-! ## The bases subtracted from the keys -/

/-- The first row's base, as the kernel computes it. -/
theorem base0 (t : Fin k0_t2_loop.trips) (x : S16.Idx) :
    k0_pay35 (Scalar.addi (Scalar.muli (BitVec.ofNat 32 (L 1).val) 2#32) (BitVec.ofNat 32 (L 0).val)) 0#32 1#32 t x
      = BitVec.ofNat 32 (row L t * 50176) := by
  show (((BitVec.ofNat 32 (L 1).val * BitVec.ofNat 32 2 + BitVec.ofNat 32 (L 0).val) * BitVec.ofNat 32 48
    + BitVec.ofNat 32 2 * (BitVec.ofNat 32 0 + BitVec.ofNat 32 t.val * BitVec.ofNat 32 1)) * BitVec.ofNat 32 50176) = _
  simp only [← BitVec.ofNat_mul, ← BitVec.ofNat_add]
  refine congrArg _ ?_
  unfold row; ring

/-- The second row's. -/
theorem base1 (t : Fin k0_t2_loop.trips) (x : S16.Idx) :
    k0_pay3 (Scalar.addi (Scalar.addi (Scalar.muli (Scalar.addi (Scalar.muli (BitVec.ofNat 32 (L 1).val) 2#32) (BitVec.ofNat 32 (L 0).val)) 48#32)
        (Scalar.muli 2#32 (Scf.iv 0#32 1#32 t.val))) 1#32) x
      = BitVec.ofNat 32 ((row L t + 1) * 50176) := by
  show (((BitVec.ofNat 32 (L 1).val * BitVec.ofNat 32 2 + BitVec.ofNat 32 (L 0).val) * BitVec.ofNat 32 48
    + BitVec.ofNat 32 2 * (BitVec.ofNat 32 0 + BitVec.ofNat 32 t.val * BitVec.ofNat 32 1) + BitVec.ofNat 32 1) * BitVec.ofNat 32 50176) = _
  simp only [← BitVec.ofNat_mul, ← BitVec.ofNat_add]
  refine congrArg _ ?_
  unfold row; ring

end Cert.Proof.Unpool

end
-- ==== Proof.Task.lean ====
/- One trip of the task's main loop: two rows read in, drawn, written out and wiped. -/
module

public import proofs.«01_k».proof.Proof.Trips
public import proofs.«01_k».proof.Proof.Rows

@[expose] public section

noncomputable section

namespace Cert.Proof.Unpool

open Cert.KernelIdeal Cert.KernelIdeal.Gen Cert.Paint

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- What every trip takes and hands back: the plane wiped, the buffers at anything, the four semaphores at nothing. -/
def bench (O : CellTallies nD τ sig (HIx 1)) (W : Waits sig (HIx 1)) : sProp 𝕄 :=
  iprop(Transfers.MayWaits (thr d L) (none : HIx 1) O ∗ planeAt (F := F) d L (fun _ => zero)
    ∗ (∃ f, sK0.view.loc (thr d L) ↦{fullShare} f) ∗ (∃ f, sV0.view.loc (thr d L) ↦{fullShare} f)
    ∗ (∃ f, sK1.view.loc (thr d L) ↦{fullShare} f) ∗ (∃ f, sV1.view.loc (thr d L) ↦{fullShare} f)
    ∗ semVal (thr d L, SemLoc.dma cc0_scratch5.sem) 0 ∗ semVal (thr d L, SemLoc.dma cc0_scratch6.sem) 0
    ∗ semVal (thr d L, SemLoc.dma cc0_scoped0.sem) 0 ∗ semVal (thr d L, SemLoc.dma cc0_scoped1.sem) 0
    ∗ ∃ W', ⌜∀ p ∈ W', p ∈ W ∨ p.2 = none⌝ ∗ owes (thr d L) O W')

/-- The rows a trip reads. -/
def reads (k : S19267584.Idx → BitVec 32) (v : S19267584.Idx → F .f32) (t : Fin k0_t2_loop.trips) : sProp 𝕄 :=
  iprop(window d L (kW0 L t) k ∗ window d L (vW0 L t) v ∗ window d L (kW1 L t) k ∗ window d L (vW1 L t) v)

/-- The planes it writes, the result holding `f`. -/
def writes (f : S77070336.Idx → F .f32) (t : Fin k0_t2_loop.trips) : sProp 𝕄 :=
  iprop(window d L (oW0 L t) f ∗ window d L (oW1 L t) f)

/-- Waits recorded at no index keep the record within what it was. -/
theorem waits_insert {W W' : Waits sig (HIx 1)} (s : SemLoc sig) (h : ∀ p ∈ W', p ∈ W ∨ p.2 = none) :
    ∀ p ∈ (insert (s, (default : HIx 1)) W' : Waits sig (HIx 1)), p ∈ W ∨ p.2 = none := by
  intro p hp
  rcases Finset.mem_insert.mp hp with hp | hp
  · exact .inr (hp ▸ rfl)
  · exact h p hp

/-- The task's number, as the kernel computes it. -/
abbrev task : BitVec 32 := Scalar.addi (Scalar.muli (BitVec.ofNat 32 (L 1).val) 2#32) (BitVec.ofNat 32 (L 0).val)

/-- The row loops go through a row. -/
theorem trips3 : 256 * Scf.trips k0_t3_loop.lb k0_t3_loop.ub k0_t3_loop.st = 12544 := by decide +kernel
theorem trips4 : 256 * Scf.trips k0_t4_loop.lb k0_t4_loop.ub k0_t4_loop.st = 12544 := by decide +kernel
theorem trips5 : 256 * Scf.trips k0_t5_loop.lb k0_t5_loop.ub k0_t5_loop.st = 12544 := by decide +kernel
theorem trips6 : 256 * Scf.trips k0_t6_loop.lb k0_t6_loop.ub k0_t6_loop.st = 12544 := by decide +kernel

/-- One trip: the result's two planes are drawn, and the bench is left as it was. -/
theorem t2_trip {k : S19267584.Idx → BitVec 32} {v : S19267584.Idx → F .f32} (hk : InRows k)
    (O : CellTallies nD τ sig (HIx 1)) (W : Waits sig (HIx 1)) (t : Fin k0_t2_loop.trips) (o : S77070336.Idx → F .f32)
    (_plan₀ : Transfers.BatchOf (thr d L) (SemLoc.dma (sig := sig) cc0_scratch5.sem) 2)
    (_plan₁ : Transfers.BatchOf (thr d L) (SemLoc.dma (sig := sig) cc0_scratch6.sem) 2) :
    iprop(bench d L O W ∗ reads d L k v t ∗ writes d L o t)
      ⊢ wp frame (wpE (defs₀ (F := F)) 𝒱₀ (thr d L) none) Set.univ
          (k0_t2_body L vV (Memref.isWhole_whole _) kV (Memref.isWhole_whole _) oV (Memref.isWhole_whole _) sK0 (Memref.isWhole_whole _) sV0 (Memref.isWhole_whole _) sK1 (Memref.isWhole_whole _) sV1 (Memref.isWhole_whole _) sP (Memref.isWhole_whole _) cc0_scratch5 cc0_scratch6 cc0_scoped0 cc0_scoped1 (task L) t ())
          (fun _ => iprop(bench d L O W ∗ reads d L k v t ∗ writes d L (result k v) t)) := by
  have hr := row_lt L t
  unfold k0_t2_body
  rw [k0_part15_eq_skeleton]
  unfold k0_part15_skel bench reads writes
  iintro ⟨⟨Hmw, Hp, ⟨%f0, HK0⟩, ⟨%g0, HV0⟩, ⟨%f1, HK1⟩, ⟨%g1, HV1⟩, S5, S6, S0, S1, %W', %hW', HO⟩, ⟨k0, v0, k1, v1⟩, ⟨o0, o1⟩⟩
  sl_exec
  -- the first row is in: it is drawn
  rw [bind_assoc]
  sl_for (fun i (_ : PUnit) => iprop(planeAt d L (drawn k v (row L t) (256 * i))
      ∗ (sK0.view.loc (thr d L) ↦{fullShare} sK0.view.writes (Elt F) f0 [⟨Rect.unit ![12544] S16.size inb_S12560_S16_12544, k0_pay2⟩,
        ⟨Rect.unit ![0] S12544.size inb_S12560_S12544_0, (kW0 L t).view.read (Elt F) k⟩])
      ∗ (sV0.view.loc (thr d L) ↦{fullShare} sV0.view.write (Elt F) g0 ((vW0 L t).view.read (Elt F) v) Finset.univ))) $$ [Hp HK0 HV0]
  case region =>
    intro i _
    exact t3_trip d L hk (by omega) (holds_keys d L (read_keys (F := F) (off2_row L t))) (holds_vals d L (read_vals (off2_row L t))) (base0 L t) i
  · isplitl [Hp]; · iexact Hp
    isplitl [HK0]; · iexact HK0
    iexact HV0
  iintro %_ ⟨Hp, HK0, HV0⟩
  sl_exec
  -- its plane is out: the plane is wiped
  sl_for (fun i (_ : PUnit) => iprop(planeAt d L (wiped k v (row L t) (256 * i))
      ∗ (sK0.view.loc (thr d L) ↦{fullShare} sK0.view.writes (Elt F) sK0.view.junk [⟨Rect.unit ![12544] S16.size inb_S12560_S16_12544, k0_pay2⟩,
        ⟨Rect.unit ![0] S12544.size inb_S12560_S12544_0, (kW0 L t).view.read (Elt F) k⟩]))) $$ [Hp HK0]
  case region =>
    intro i _
    exact t4_trip d L hk (by omega) (holds_keys d L (read_keys (F := F) (off2_row L t))) (base0 L t) i
  · isplitl [Hp]; · iexact Hp
    iexact HK0
  iintro %_ ⟨Hp, HK0⟩
  ihave Hp := (Entails.of_eq (planeAt_congr d L (g := wiped k v (row L t) (256 * Scf.trips k0_t4_loop.lb k0_t4_loop.ub k0_t4_loop.st)) (g' := drawn k v (row L t + 1) 0) fun x _ => (congrArg (fun n => wiped k v (row L t) n x) trips4).trans (wiped_all k v (row L t) x))) $$ Hp
  sl_exec
  -- the second row is in: it is drawn
  sl_for (fun i (_ : PUnit) => iprop(planeAt d L (drawn k v (row L t + 1) (256 * i))
      ∗ (sK1.view.loc (thr d L) ↦{fullShare} sK1.view.writes (Elt F) sK1.view.junk [⟨Rect.unit ![12544] S16.size inb_S12560_S16_12544, k0_pay2⟩,
        ⟨Rect.unit ![0] S12544.size inb_S12560_S12544_0, (kW1 L t).view.read (Elt F) k⟩])
      ∗ (sV1.view.loc (thr d L) ↦{fullShare} sV1.view.write (Elt F) g1 ((vW1 L t).view.read (Elt F) v) Finset.univ))) $$ [Hp HK1 HV1]
  case region =>
    intro i _
    exact t5_trip d L hk hr (holds_keys d L (read_keys (F := F) (off3_row L t))) (holds_vals d L (read_vals (off3_row L t))) (base1 L t) i
  · isplitl [Hp]; · iexact Hp
    isplitl [HK1]; · iexact HK1
    iexact HV1
  iintro %_ ⟨Hp, HK1, HV1⟩
  sl_exec
  -- its plane is out: the plane is wiped
  sl_for (fun i (_ : PUnit) => iprop(planeAt d L (wiped k v (row L t + 1) (256 * i))
      ∗ (sK1.view.loc (thr d L) ↦{fullShare} sK1.view.writes (Elt F) sK1.view.junk [⟨Rect.unit ![12544] S16.size inb_S12560_S16_12544, k0_pay2⟩,
        ⟨Rect.unit ![0] S12544.size inb_S12560_S12544_0, (kW1 L t).view.read (Elt F) k⟩]))) $$ [Hp HK1]
  case region =>
    intro i _
    exact t6_trip d L hk hr (holds_keys d L (read_keys (F := F) (off3_row L t))) (base1 L t) i
  · isplitl [Hp]; · iexact Hp
    iexact HK1
  iintro %_ ⟨Hp, HK1⟩
  ihave Hp := (Entails.of_eq (planeAt_congr d L (g := wiped k v (row L t + 1) (256 * Scf.trips k0_t6_loop.lb k0_t6_loop.ub k0_t6_loop.st)) (g' := fun _ => zero) fun x _ => (congrArg (fun n => wiped k v (row L t + 1) n x) trips6).trans (wiped_all k v (row L t + 1) x))) $$ Hp
  sl_exec
  rw [wp_ret]; imodintro
  isplitl [Hmw Hp HK0 HV0 HK1 HV1 S5 S6 S0 S1 HO]
  · isplitl [Hmw]; · iexact Hmw
    isplitl [Hp]; · iexact Hp
    isplitl [HK0]; · iexists _; iexact HK0
    isplitl [HV0]; · iexists _; iexact HV0
    isplitl [HK1]; · iexists _; iexact HK1
    isplitl [HV1]; · iexists _; iexact HV1
    isplitl [S5]; · iexact S5
    isplitl [S6]; · iexact S6
    isplitl [S0]; · iexact S0
    isplitl [S1]; · iexact S1
    iexists (insert (SemLoc.dma cc0_scoped1.sem, default) (insert (SemLoc.dma cc0_scratch6.sem, default) (insert (SemLoc.dma cc0_scratch6.sem, default) (insert (SemLoc.dma cc0_scoped0.sem, default) (insert (SemLoc.dma cc0_scratch5.sem, default) (insert (SemLoc.dma cc0_scratch5.sem, default) W'))))))
    isplitr
    · ipureintro
      exact waits_insert _ (waits_insert _ (waits_insert _ (waits_insert _ (waits_insert _ (waits_insert _ hW')))))
    · iexact HO
  isplitl [k0 v0 k1 v1]
  · isplitl [k0]; · iexact k0
    isplitl [v0]; · iexact v0
    isplitl [k1]; · iexact k1
    iexact v1
  isplitl [o0]
  · iapply (Entails.of_eq (window_result d L (k := k) (v := v) (f := ((oW0 L t).view.junk (Val := Elt F) : S77070336.Idx → F .f32)) (w := t2_trip.sl.dma0_1 L (k := k) (v := v) t) (off52_row L t)
      fun x => congrArg (fun n => drawn k v (row L t) n (x 0).val) trips3)) $$ o0
  · iapply (Entails.of_eq (window_result d L (k := k) (v := v) (f := ((oW1 L t).view.junk (Val := Elt F) : S77070336.Idx → F .f32)) (w := t2_trip.sl.dma0_2 L (k := k) (v := v) t) (off117_row L t)
      fun x => congrArg (fun n => drawn k v (row L t + 1) n (x 0).val) trips5)) $$ o1

end Cert.Proof.Unpool

end
-- ==== Proof.Body.lean ====
/- A task of the SparseCore call: its scratch, the zeroing loop and the main loop. -/
module

public import proofs.«01_k».proof.Proof.Task

@[expose] public section

noncomputable section

namespace Cert.Proof.Unpool

open Cert.KernelIdeal Cert.KernelIdeal.Gen Cert.Paint

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The task's four semaphores are among the subcore's own: they are them and the rest. -/
theorem ownSems0_task :
    (ownSems0 (thr d L) : sProp 𝕄)
      = iprop(semVal (thr d L, SemLoc.dma cc0_scratch5.sem) 0 ∗ semVal (thr d L, SemLoc.dma cc0_scratch6.sem) 0
          ∗ semVal (thr d L, SemLoc.dma cc0_scoped0.sem) 0 ∗ semVal (thr d L, SemLoc.dma cc0_scoped1.sem) 0
          ∗ bigSep (((((ownCells (thr d L)).erase (thr d L, SemLoc.dma cc0_scratch5.sem)).erase (thr d L, SemLoc.dma cc0_scratch6.sem)).erase
              (thr d L, SemLoc.dma cc0_scoped0.sem)).erase (thr d L, SemLoc.dma cc0_scoped1.sem)) fun g => semVal g 0) := by
  have hm (s : DmaSem sig) (hs : (SemLoc.dma s : SemLoc sig).isScoped .scVector = true) : ((thr d L, SemLoc.dma s) : GSem nD τ sig) ∈ ownCells (thr d L) :=
    mem_ownCells.mpr ⟨rfl, hs⟩
  have hn {s s' : DmaSem sig} (h : s ≠ s') : ((thr d L, SemLoc.dma s) : GSem nD τ sig) ≠ (thr d L, SemLoc.dma s') := by
    intro e
    exact h (SemLoc.dma.inj (Prod.mk.inj e).2)
  unfold SparseCore.Cfg.ownSems0
  rw [SparseCore.bigSep_erase' (hm cc0_scratch5.sem (by decide)),
    SparseCore.bigSep_erase' (Finset.mem_erase.mpr ⟨hn (by decide), hm cc0_scratch6.sem (by decide)⟩),
    SparseCore.bigSep_erase' (Finset.mem_erase.mpr ⟨hn (by decide), Finset.mem_erase.mpr ⟨hn (by decide), hm cc0_scoped0.sem (by decide)⟩⟩),
    SparseCore.bigSep_erase' (Finset.mem_erase.mpr ⟨hn (by decide), Finset.mem_erase.mpr ⟨hn (by decide), Finset.mem_erase.mpr ⟨hn (by decide),
      hm cc0_scoped1.sem (by decide)⟩⟩⟩)]

/-- The five scratch buffers are among the subcore's own: they are them, at some contents, and the rest. -/
theorem ownBufs_task :
    (ownBufs (thr d L) : sProp 𝕄)
      = iprop((∃ f, sK0.view.loc (thr d L) ↦{fullShare} f) ∗ (∃ f, sV0.view.loc (thr d L) ↦{fullShare} f)
          ∗ (∃ f, sK1.view.loc (thr d L) ↦{fullShare} f) ∗ (∃ f, sV1.view.loc (thr d L) ↦{fullShare} f) ∗ (∃ f, sP.view.loc (thr d L) ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  have hm (b : Ref sig .scVector) (hb : ((Proc.scVector (cV L) (jV L)).devRef b).owner = .proc (Proc.scVector (cV L) (jV L))) :
      (Proc.scVector (cV L) (jV L)).devRef b ∈ ownRefs (τ := τ) (.scVector (cV L) (jV L)) :=
    SparseCore.Cfg.mem_ownRefs_of_owner hb
  have hn {b b' : Ref sig .scVector} (h : b ≠ b') : (Proc.scVector (cV L) (jV L)).devRef b ≠ (Proc.scVector (cV L) (jV L)).devRef b' :=
    fun e => h (Proc.devRef_injective _ e)
  unfold SparseCore.Cfg.ownBufs
  refine (SparseCore.bigSep_erase' (hm cc0_scratch0 rfl)).trans ?_
  rw [SparseCore.bigSep_erase' (Finset.mem_erase.mpr ⟨hn (by decide), hm cc0_scratch1 rfl⟩),
    SparseCore.bigSep_erase' (Finset.mem_erase.mpr ⟨hn (by decide), Finset.mem_erase.mpr ⟨hn (by decide), hm cc0_scratch2 rfl⟩⟩),
    SparseCore.bigSep_erase' (Finset.mem_erase.mpr ⟨hn (by decide), Finset.mem_erase.mpr ⟨hn (by decide), Finset.mem_erase.mpr ⟨hn (by decide),
      hm cc0_scratch3 rfl⟩⟩⟩),
    SparseCore.bigSep_erase' (Finset.mem_erase.mpr ⟨hn (by decide), Finset.mem_erase.mpr ⟨hn (by decide), Finset.mem_erase.mpr ⟨hn (by decide),
      Finset.mem_erase.mpr ⟨hn (by decide), hm cc0_scratch4 rfl⟩⟩⟩⟩)]

/-- The rows a task reads. -/
def rowsOf (k : S19267584.Idx → BitVec 32) (v : S19267584.Idx → F .f32) : sProp 𝕄 := bigSep Finset.univ fun t => reads d L k v t

/-- The planes of the result a task writes, the result holding `f`. -/
def planesOf (f : S77070336.Idx → F .f32) : sProp 𝕄 := bigSep Finset.univ fun t => writes d L f t

/-- The zeroing loop goes through the plane. -/
theorem trips1 : 256 * Scf.trips k0_t1_loop.lb k0_t1_loop.ub k0_t1_loop.st = 50176 := by decide +kernel

/-- A plane wholly zeroed. -/
theorem zeroed_full : zeroed (F := F) d L 50176 ⊢ planeAt (F := F) d L fun _ => zero := by
  unfold zeroed
  iintro ⟨%g, %hg, H⟩
  iapply (Entails.of_eq (planeAt_congr d L hg)) $$ H

/-- The task: from its rows, its planes of the result at anything, and its scratch, to its planes drawn. -/
theorem task_body {k : S19267584.Idx → BitVec 32} {v : S19267584.Idx → F .f32} (hk : InRows k) (o : S77070336.Idx → F .f32)
    (O : CellTallies nD τ sig (HIx 1)) (W : Waits sig (HIx 1)) (hO : ∀ g, O g none = 0) :
    iprop(levAts (K (F := F)).L (K (F := F)).lev ∗ emp ∗ (rowsOf d L k v ∗ planesOf d L o)
        ∗ scopedBufs (thr d L) ∗ scopedSems0 (thr d L) ∗ owes (thr d L) O W)
      ⊢ wp frame (wpE (defs₀ (F := F)) 𝒱₀ (thr d L) none) Set.univ
          (cc0__unpool_body L vV (Memref.isWhole_whole _) kV (Memref.isWhole_whole _) oV (Memref.isWhole_whole _) sK0 (Memref.isWhole_whole _) sV0 (Memref.isWhole_whole _) sK1 (Memref.isWhole_whole _) sV1 (Memref.isWhole_whole _) sP (Memref.isWhole_whole _) cc0_scratch5 cc0_scratch6 cc0_scoped0 cc0_scoped1)
          fun _ => iprop((rowsOf d L k v ∗ planesOf d L (result k v)) ∗ scopedBufs (thr d L) ∗ scopedSems0 (thr d L)
            ∗ ∃ W', ⌜∀ p ∈ W', p ∈ W ∨ p.2 = none⌝ ∗ owes (thr d L) O W') := by
  have plan₀ : Transfers.BatchOf (thr d L) (SemLoc.dma (sig := sig) cc0_scratch5.sem) 2 := trivial
  have plan₁ : Transfers.BatchOf (thr d L) (SemLoc.dma (sig := sig) cc0_scratch6.sem) 2 := trivial
  rw [cc0__unpool_body_eq_skeleton]
  unfold cc0__unpool_body_skel
  dsimp only
  rw [(K (F := F)).scopedBufs_V facts d (cV L) (jV L), SparseCore.Cfg.scopedSems0_V (Val := Elt F) d (cV L) (jV L), ownSems0_task, ownBufs_task]
  iintro ⟨#Hlv, -, ⟨Hr, Hw⟩, ⟨HK0, HV0, HK1, HV1, ⟨%fp, Hp⟩, Hbufs⟩, ⟨S5, S6, S0, S1, Hsems⟩, HO⟩
  ihave Hmw := ((K (F := F)).mayWaits_none (thr := thr d L) hO) $$ Hlv
  ihave Hp := (zeroed_zero d L fp) $$ Hp
  -- the plane is zeroed
  sl_for (fun i (_ : PUnit) => zeroed (F := F) d L (256 * i)) $$ [Hp]
  case region =>
    intro i _
    exact t1_trip d L i
  · iexact Hp
  iintro %_ Hp
  ihave Hp := ((Entails.of_eq (congrArg (fun n => zeroed (F := F) d L n) trips1)).trans (zeroed_full d L)) $$ Hp
  -- two rows a trip
  sl_for (fun i (_ : PUnit) => iprop(bench d L O W ∗ rowsOf d L k v ∗ bigSep Finset.univ fun t => writes d L (if t.val < i then result k v else o) t))
    $$ [Hmw Hp HK0 HV0 HK1 HV1 S5 S6 S0 S1 HO Hr Hw]
  case region =>
    intro i _
    unfold rowsOf
    iintro ⟨Hb, Hr, Hw⟩
    ihave Hr := (bigSep_univ_update (Φ := fun t => reads d L k v t) (Ψ := fun t => reads d L k v t) i fun _ _ => rfl) $$ Hr
    icases Hr with ⟨Hr, Hrs⟩
    ihave Hw := (bigSep_univ_update (Φ := fun t => writes d L (if t.val < i.val then result k v else o) t)
      (Ψ := fun t => writes d L (if t.val < i.val + 1 then result k v else o) t) i fun t ht => by
        have : t.val ≠ i.val := fun e => ht (Fin.ext e)
        exact congrArg (fun f => writes d L f t) (ite_congr (propext ⟨fun h => by omega, fun h => by omega⟩) (fun _ => rfl) fun _ => rfl)) $$ Hw
    icases Hw with ⟨Hw, Hws⟩
    rw [if_neg (Nat.lt_irrefl i.val), if_pos (Nat.lt_succ_self i.val)]
    ihave H := (t2_trip d L hk O W i o plan₀ plan₁) $$ [Hb Hr Hw]
    · isplitl [Hb]; · iexact Hb
      isplitl [Hr]; · iexact Hr
      iexact Hw
    iapply (wp_wand _ _ _) $$ H
    iintro %_ ⟨Hb, Hr, Hw⟩
    isplitl [Hb]; · iexact Hb
    isplitl [Hr Hrs]
    · iapply Hrs $$ Hr
    · iapply Hws $$ Hw
  · isplitl [Hmw Hp HK0 HV0 HK1 HV1 S5 S6 S0 S1 HO]
    · unfold bench
      isplitl [Hmw]; · iexact Hmw
      isplitl [Hp]; · iexact Hp
      isplitl [HK0]; · iexact HK0
      isplitl [HV0]; · iexact HV0
      isplitl [HK1]; · iexact HK1
      isplitl [HV1]; · iexact HV1
      isplitl [S5]; · iexact S5
      isplitl [S6]; · iexact S6
      isplitl [S0]; · iexact S0
      isplitl [S1]; · iexact S1
      iexists W; isplitr
      · ipureintro
        exact fun p hp => .inl hp
      · iexact HO
    isplitl [Hr]; · iexact Hr
    unfold planesOf
    iapply (Entails.of_eq (bigSep_congr (Φ := fun t => writes d L o t) (Ψ := fun t => writes d L (if t.val < 0 then result k v else o) t)
      fun t _ => by rw [if_neg (Nat.not_lt_zero t.val)])) $$ Hw
  iintro %_ ⟨Hb, Hr, Hw⟩
  ihave Hw := (Entails.of_eq (bigSep_congr (Ψ := fun t => writes d L (result k v) t) fun t _ => by rw [if_pos t.isLt])) $$ Hw
  unfold bench
  icases Hb with ⟨-, Hp, HK0, HV0, HK1, HV1, S5, S6, S0, S1, HO⟩
  sl_step
  isplitl [Hr Hw]
  · isplitl [Hr]; · iexact Hr
    unfold planesOf
    iexact Hw
  isplitl [Hp HK0 HV0 HK1 HV1 Hbufs]
  · isplitl [HK0]; · iexact HK0
    isplitl [HV0]; · iexact HV0
    isplitl [HK1]; · iexact HK1
    isplitl [HV1]; · iexact HV1
    isplitl [Hp]; · iexists _; iexact Hp
    iexact Hbufs
  isplitl [S5 S6 S0 S1 Hsems]
  · isplitl [S5]; · iexact S5
    isplitl [S6]; · iexact S6
    isplitl [S0]; · iexact S0
    isplitl [S1]; · iexact S1
    iexact Hsems
  iexact HO

end Cert.Proof.Unpool

end
-- ==== Proof.Windows.lean ====
/- The three arrays of the call, cut into the tasks' windows: row by row, two rows a trip, 24 trips a task, 32 tasks. -/
module

public import proofs.«01_k».proof.Proof.Body

@[expose] public section

noncomputable section

namespace Cert.Proof.Unpool

open Cert.KernelIdeal Cert.KernelIdeal.Gen Cert.Paint

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- A row by SparseCore, subcore, trip and turn. -/
abbrev RowId : Type := Fin 2 × Fin 16 × Fin 24 × Fin 2
/-- Its number. -/
def rowNo (p : RowId) : ℕ := 48 * (2 * p.2.1.val + p.1.val) + 2 * p.2.2.1.val + p.2.2.2.val

omit [FloatOps F] in
theorem rowNo_inj {p q : RowId} (h : rowNo p = rowNo q) : p = q := by
  obtain ⟨c, s, t, x⟩ := p
  obtain ⟨c', s', t', x'⟩ := q
  simp only [rowNo] at h
  have e : c = c' ∧ s = s' ∧ t = t' ∧ x = x' := by
    refine ⟨Fin.ext ?_, Fin.ext ?_, Fin.ext ?_, Fin.ext ?_⟩ <;> omega
  obtain ⟨rfl, rfl, rfl, rfl⟩ := e
  rfl

omit [FloatOps F] in
theorem rowNo_surj {r : ℕ} (h : r < 1536) : ∃ p, rowNo p = r :=
  ⟨(⟨r / 48 % 2, by omega⟩, ⟨r / 96, by omega⟩, ⟨r % 48 / 2, by omega⟩, ⟨r % 2, by omega⟩), by simp only [rowNo]; omega⟩

/-- The entries of row `r` of a vector of rows of `n`. -/
def rowSet (D n r : ℕ) : Finset (⟨1, ![D]⟩ : Shape).Idx := Finset.univ.filter fun x => (x 0).val / n = r

omit [FloatOps F] in
theorem mem_rowSet {D n r : ℕ} {x : (⟨1, ![D]⟩ : Shape).Idx} : x ∈ rowSet D n r ↔ (x 0).val / n = r := by
  simp only [rowSet, Finset.mem_filter, Finset.mem_univ, true_and]

omit [FloatOps F] in
/-- The rows are apart, -/
theorem rows_disjoint (D n : ℕ) : ∀ p ∈ (Finset.univ : Finset RowId), ∀ q ∈ (Finset.univ : Finset RowId), p ≠ q →
    Disjoint (rowSet D n (rowNo p)) (rowSet D n (rowNo q)) := by
  intro p _ q _ hpq
  refine Finset.disjoint_left.mpr fun x hx hx' => hpq (rowNo_inj ?_)
  exact (mem_rowSet.mp hx).symm.trans (mem_rowSet.mp hx')

omit [FloatOps F] in
/-- and they are all there is. -/
theorem rows_cover {D n : ℕ} (hD : D = n * 1536) : (Finset.univ : Finset RowId).biUnion (fun p => rowSet D n (rowNo p)) = Finset.univ := by
  refine Finset.eq_univ_iff_forall.mpr fun x => ?_
  have h : (x 0).val < D := (x 0).isLt
  have hx : (x 0).val < n * 1536 := h.trans_eq hD
  have hr : (x 0).val / n < 1536 := Nat.div_lt_of_lt_mul hx
  have hs : ∃ p, rowNo p = (x 0).val / n := rowNo_surj (r := (x 0).val / n) hr
  rw [Finset.mem_biUnion]
  have h2 : ∃ p : RowId, p ∈ (Finset.univ : Finset RowId) ∧ x ∈ rowSet D n (rowNo p) := hs.imp fun p hp => ⟨Finset.mem_univ p, mem_rowSet.mpr hp.symm⟩
  exact h2

omit [FloatOps F] in
/-- A window that starts at row `r` and is a row long is row `r`. -/
theorem unit_rowSet {D n : ℕ} (hn : 0 < n) {o : Fin 1 → ℕ} {i : ∀ a, o a + (![n] : Fin 1 → ℕ) a ≤ (⟨1, ![D]⟩ : Shape).size a} {r : ℕ} (ho : o 0 = r * n) :
    (Rect.unit (s := ⟨1, ![D]⟩) o ![n] i).set = rowSet D n r := by
  ext x
  rw [Rect.mem_set_unit, mem_rowSet, Fin.forall_fin_one, ho, Nat.div_eq_iff hn]
  show _ ∧ _ < r * n + n ↔ _
  omega

/-- The call's three arrays, as the TensorCore names them. -/
abbrev kLoc (d : Dev nD) : Loc nD τ sig := (SparseCore.T d).loc main_v9_0
abbrev vLoc (d : Dev nD) : Loc nD τ sig := (SparseCore.T d).loc main_v9_1
abbrev oLoc (d : Dev nD) : Loc nD τ sig := (SparseCore.T d).loc main_v10

/-- The task of SparseCore `c`, subcore `s`. -/
def taskAt (c : Fin 2) (s : Fin 16) : grid0.Coords := fun | 0 => c | 1 => s | ⟨_ + 2, h⟩ => absurd h (Nat.not_lt.2 (Nat.le_add_left _ _))

theorem kW0_row (f : S19267584.Idx → BitVec 32) (c : Fin 2) (s : Fin 16) (t : Fin k0_t2_loop.trips) :
    window (F := F) d (taskAt c s) (kW0 (taskAt c s) t) f = (kLoc d ↦[rowSet 19267584 12544 (rowNo (c, s, t, 0))]{fullShare} f) :=
  congrArg (fun I => (kLoc d ↦[I]{fullShare} f : sProp 𝕄)) ((View.set_slice_whole _ _).trans (unit_rowSet (by decide) (off2_row (taskAt c s) t)))

theorem kW1_row (f : S19267584.Idx → BitVec 32) (c : Fin 2) (s : Fin 16) (t : Fin k0_t2_loop.trips) :
    window (F := F) d (taskAt c s) (kW1 (taskAt c s) t) f = (kLoc d ↦[rowSet 19267584 12544 (rowNo (c, s, t, 1))]{fullShare} f) :=
  congrArg (fun I => (kLoc d ↦[I]{fullShare} f : sProp 𝕄)) ((View.set_slice_whole _ _).trans (unit_rowSet (by decide) (off3_row (taskAt c s) t)))

theorem vW0_row (f : S19267584.Idx → F .f32) (c : Fin 2) (s : Fin 16) (t : Fin k0_t2_loop.trips) :
    window (F := F) d (taskAt c s) (vW0 (taskAt c s) t) f = (vLoc d ↦[rowSet 19267584 12544 (rowNo (c, s, t, 0))]{fullShare} f) :=
  congrArg (fun I => (vLoc d ↦[I]{fullShare} f : sProp 𝕄)) ((View.set_slice_whole _ _).trans (unit_rowSet (by decide) (off2_row (taskAt c s) t)))

theorem vW1_row (f : S19267584.Idx → F .f32) (c : Fin 2) (s : Fin 16) (t : Fin k0_t2_loop.trips) :
    window (F := F) d (taskAt c s) (vW1 (taskAt c s) t) f = (vLoc d ↦[rowSet 19267584 12544 (rowNo (c, s, t, 1))]{fullShare} f) :=
  congrArg (fun I => (vLoc d ↦[I]{fullShare} f : sProp 𝕄)) ((View.set_slice_whole _ _).trans (unit_rowSet (by decide) (off3_row (taskAt c s) t)))

theorem oW0_row (f : S77070336.Idx → F .f32) (c : Fin 2) (s : Fin 16) (t : Fin k0_t2_loop.trips) :
    window (F := F) d (taskAt c s) (oW0 (taskAt c s) t) f = (oLoc d ↦[rowSet 77070336 50176 (rowNo (c, s, t, 0))]{fullShare} f) :=
  congrArg (fun I => (oLoc d ↦[I]{fullShare} f : sProp 𝕄)) ((View.set_slice_whole _ _).trans (unit_rowSet (by decide) (off52_row (taskAt c s) t)))

theorem oW1_row (f : S77070336.Idx → F .f32) (c : Fin 2) (s : Fin 16) (t : Fin k0_t2_loop.trips) :
    window (F := F) d (taskAt c s) (oW1 (taskAt c s) t) f = (oLoc d ↦[rowSet 77070336 50176 (rowNo (c, s, t, 1))]{fullShare} f) :=
  congrArg (fun I => (oLoc d ↦[I]{fullShare} f : sProp 𝕄)) ((View.set_slice_whole _ _).trans (unit_rowSet (by decide) (off117_row (taskAt c s) t)))

omit [FloatOps F] in
/-- Rows held over all row names are held by SparseCore, subcore, trip and turn. -/
theorem bigSep_rows (Φ : RowId → sProp 𝕄) :
    bigSep Finset.univ Φ = bigSep Finset.univ fun c : Fin 2 => bigSep Finset.univ fun s : Fin 16 => bigSep Finset.univ fun t : Fin 24 =>
      iprop(Φ (c, s, t, 0) ∗ Φ (c, s, t, 1)) := by
  rw [bigSep_univ_prod]
  refine bigSep_congr fun c _ => ?_
  rw [bigSep_univ_prod]
  refine bigSep_congr fun s _ => ?_
  rw [bigSep_univ_prod]
  exact bigSep_congr fun t _ => bigSep_univ_two _

theorem keys_cut (f : S19267584.Idx → BitVec 32) :
    (kLoc d ↦{fullShare} f : sProp 𝕄) = bigSep Finset.univ fun c : Fin 2 => bigSep Finset.univ fun s : Fin 16 => bigSep Finset.univ fun t : Fin k0_t2_loop.trips =>
      iprop(window (F := F) d (taskAt c s) (kW0 (taskAt c s) t) f ∗ window (F := F) d (taskAt c s) (kW1 (taskAt c s) t) f) := by
  simp only [kW0_row, kW1_row]
  exact ((congrArg (fun I => (kLoc d ↦[I]{fullShare} f : sProp 𝕄)) (rows_cover (D := 19267584) (n := 12544) rfl).symm).trans
    (pointsTo_biUnion (ℓ := kLoc d) Finset.univ _ (rows_disjoint 19267584 12544))).trans (bigSep_rows _)

theorem vals_cut (f : S19267584.Idx → F .f32) :
    (vLoc d ↦{fullShare} f : sProp 𝕄) = bigSep Finset.univ fun c : Fin 2 => bigSep Finset.univ fun s : Fin 16 => bigSep Finset.univ fun t : Fin k0_t2_loop.trips =>
      iprop(window (F := F) d (taskAt c s) (vW0 (taskAt c s) t) f ∗ window (F := F) d (taskAt c s) (vW1 (taskAt c s) t) f) := by
  simp only [vW0_row, vW1_row]
  exact ((congrArg (fun I => (vLoc d ↦[I]{fullShare} f : sProp 𝕄)) (rows_cover (D := 19267584) (n := 12544) rfl).symm).trans
    (pointsTo_biUnion (ℓ := vLoc d) Finset.univ _ (rows_disjoint 19267584 12544))).trans (bigSep_rows _)

theorem result_cut (f : S77070336.Idx → F .f32) :
    (oLoc d ↦{fullShare} f : sProp 𝕄) = bigSep Finset.univ fun c : Fin 2 => bigSep Finset.univ fun s : Fin 16 => planesOf d (taskAt c s) f := by
  unfold planesOf writes
  simp only [oW0_row, oW1_row]
  exact ((congrArg (fun I => (oLoc d ↦[I]{fullShare} f : sProp 𝕄)) (rows_cover (D := 77070336) (n := 50176) rfl).symm).trans
    (pointsTo_biUnion (ℓ := oLoc d) Finset.univ _ (rows_disjoint 77070336 50176))).trans (bigSep_rows _)

omit [FloatOps F] in
/-- Two pairs of assertions are the pairs of their first and of their second parts. -/
theorem sep_swap (A B C D : sProp 𝕄) : iprop((A ∗ B) ∗ C ∗ D) = iprop(A ∗ C ∗ B ∗ D) := by
  refine Entails.antisymm (show iprop((A ∗ B) ∗ C ∗ D) ⊢ iprop(A ∗ C ∗ B ∗ D) from ?_) (show iprop(A ∗ C ∗ B ∗ D) ⊢ iprop((A ∗ B) ∗ C ∗ D) from ?_)
  · iintro ⟨⟨HA, HB⟩, HC, HD⟩
    isplitl [HA]; · iexact HA
    isplitl [HC]; · iexact HC
    isplitl [HB] <;> iassumption
  · iintro ⟨HA, HC, HB, HD⟩
    isplitl [HA HB]
    · isplitl [HA] <;> iassumption
    · isplitl [HC] <;> iassumption

theorem rows_cut (k : S19267584.Idx → BitVec 32) (v : S19267584.Idx → F .f32) :
    iprop((kLoc d ↦{fullShare} k) ∗ (vLoc d ↦{fullShare} v))
      = (bigSep Finset.univ fun c : Fin 2 => bigSep Finset.univ fun s : Fin 16 => rowsOf d (taskAt c s) k v : sProp 𝕄) := by
  rw [keys_cut, vals_cut]
  unfold rowsOf reads
  simp only [bigSep_sep']
  exact sep_swap _ _ _ _

/-- What a SparseCore takes: its tasks' rows, and their planes of the result, the result holding `f`. -/
def coreShare (k : S19267584.Idx → BitVec 32) (v : S19267584.Idx → F .f32) (f : S77070336.Idx → F .f32) (c : Fin 2) : sProp 𝕄 :=
  bigSep Finset.univ fun s : Fin 16 => iprop(rowsOf d (taskAt c s) k v ∗ planesOf d (taskAt c s) f)

/-- The three arrays are the SparseCores' shares. -/
theorem shares (k : S19267584.Idx → BitVec 32) (v : S19267584.Idx → F .f32) (f : S77070336.Idx → F .f32) :
    bigSep Finset.univ (coreShare d k v f) = iprop(((kLoc d ↦{fullShare} k) ∗ (vLoc d ↦{fullShare} v)) ∗ (oLoc d ↦{fullShare} f)) := by
  rw [rows_cut, result_cut]
  unfold coreShare
  simp only [bigSep_sep']

end Cert.Proof.Unpool

end
-- ==== Proof.Launch.lean ====
/- The launch: what the call hands each SparseCore and each task, and what they hand back. -/
module

public import proofs.«01_k».proof.Proof.Windows

@[expose] public section

noncomputable section

namespace Cert.Proof.Unpool

open Cert.KernelIdeal Cert.KernelIdeal.Gen Cert.Paint

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (k : Dev nD → S19267584.Idx → BitVec 32) (v : Dev nD → S19267584.Idx → F .f32) (o f : Dev nD → S77070336.Idx → F .f32)

/-- The task numbered `c`, `i` by the call. -/
abbrev taskOf (c : Fin ((K (F := F)).nCore 0)) (i : Fin ((K (F := F)).nSub 0)) : grid0.Coords :=
  taskAt (Fin.cast nCore_zero c) (Fin.cast nSub_zero i)

/-- What a task takes: its rows of keys and values, its planes of the result holding `f`. -/
def taskShare (d : Dev nD) (k : S19267584.Idx → BitVec 32) (v : S19267584.Idx → F .f32) (f : S77070336.Idx → F .f32) (L : grid0.Coords) : sProp 𝕄 :=
  iprop(rowsOf d L k v ∗ planesOf d L f)

instance taskShare_storable (d : Dev nD) (k : S19267584.Idx → BitVec 32) (v : S19267584.Idx → F .f32) (f : S77070336.Idx → F .f32) (L : grid0.Coords) :
    BI.Storable (upEmb : UEmb _ 𝕄) (taskShare d k v f L) := by
  unfold taskShare rowsOf planesOf reads writes window
  infer_instance

instance coreShare_storable (d : Dev nD) (k : S19267584.Idx → BitVec 32) (v : S19267584.Idx → F .f32) (f : S77070336.Idx → F .f32) (c : Fin 2) :
    BI.Storable (upEmb : UEmb _ 𝕄) (coreShare d k v f c) := by
  have h : ∀ s : Fin 16, BI.Storable (upEmb : UEmb _ 𝕄) iprop(rowsOf d (taskAt c s) k v ∗ planesOf d (taskAt c s) f) := fun s =>
    taskShare_storable d k v f (taskAt c s)
  unfold coreShare
  infer_instance

/-- A SparseCore's share is its tasks' shares. -/
theorem core_tasks (d : Dev nD) (k : S19267584.Idx → BitVec 32) (v : S19267584.Idx → F .f32) (f : S77070336.Idx → F .f32)
    (c : Fin ((K (F := F)).nCore 0)) :
    coreShare d k v f (Fin.cast nCore_zero c) = bigSep Finset.univ fun i : Fin ((K (F := F)).nSub 0) => taskShare d k v f (taskOf c i) := by
  unfold coreShare
  rfl

/-- The cores' shares, over the call's own numbering of them. -/
theorem core_shares (d : Dev nD) (k : S19267584.Idx → BitVec 32) (v : S19267584.Idx → F .f32) (f : S77070336.Idx → F .f32) :
    (bigSep Finset.univ fun c : Fin ((K (F := F)).nCore 0) => coreShare d k v f (Fin.cast nCore_zero c))
      = iprop(((kLoc d ↦{fullShare} k) ∗ (vLoc d ↦{fullShare} v)) ∗ (oLoc d ↦{fullShare} f)) := shares d k v f

attribute [local irreducible] coreShare taskShare

/-- The call takes the keys, the values and the result, whatever it holds; it brings them back, the result holding `f`. -/
def P : (K (F := F)).Pay (nD := nD) (Val := Elt F) (Name := ℕ) (U := UU) where
  st := fun q d c => match q with | 0 => coreShare d (k d) (v d) (o d) (Fin.cast nCore_zero c)
  dn := fun q d c => match q with | 0 => coreShare d (k d) (v d) (f d) (Fin.cast nCore_zero c)
  go := fun q d c i => match q with | 0 => taskShare d (k d) (v d) (o d) (taskOf c i)
  td := fun q d c i => match q with | 0 => taskShare d (k d) (v d) (f d) (taskOf c i)
  x := fun _ _ => iprop(emp)

instance P_storable : (P k v o f).IsStorable where
  st q d c := match q with | 0 => coreShare_storable d (k d) (v d) (o d) (Fin.cast nCore_zero c)
  dn q d c := match q with | 0 => coreShare_storable d (k d) (v d) (f d) (Fin.cast nCore_zero c)
  go q d c i := match q with | 0 => taskShare_storable d (k d) (v d) (o d) (taskOf c i)
  td q d c i := match q with | 0 => taskShare_storable d (k d) (v d) (f d) (taskOf c i)

/-- The body table runs the kernel's body at the task's coordinates. -/
theorem defs₀_vector (c : Fin τ.nSC) (s : Fin τ.nSub) :
    defs₀ (F := F) (.scVector c s) 0 () = SparseCore.onTile hcore0 hsub0 (fun c s => cc0__unpool_body (taskAt c s) vV (Memref.isWhole_whole _) kV (Memref.isWhole_whole _) oV (Memref.isWhole_whole _) sK0 (Memref.isWhole_whole _) sV0 (Memref.isWhole_whole _) sK1 (Memref.isWhole_whole _) sV1 (Memref.isWhole_whole _) sP (Memref.isWhole_whole _) cc0_scratch5 cc0_scratch6 cc0_scoped0 cc0_scoped1) ⟨⟩ c s := rfl

omit [FloatOps F] in
/-- What a task's waits leave is what the call asks. -/
theorem waits_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

/-- A task meets what the call asks of it, if every key names a place of its row's plane. -/
theorem tileObl (hk : ∀ d, InRows (k d)) (hf : ∀ d, f d = result (k d) (v d)) : (K (F := F)).TileObl (D (F := F)) 𝒱 (P k v o f) v₀ 0 := by
  intro d c i O W hO _ _
  simp only [show (P k v o f).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  show iprop(_ ∗ _ ∗ taskShare d (k d) (v d) (o d) (taskAt ⟨_, hc.1⟩ ⟨_, hc.2⟩) ∗ _) ⊢ wp _ _ _ _ fun _ => iprop(taskShare d (k d) (v d) (f d) (taskAt ⟨_, hc.1⟩ ⟨_, hc.2⟩) ∗ _)
  unfold taskShare
  have ht := (task_body d (taskAt ⟨_, hc.1⟩ ⟨_, hc.2⟩) (hk d) (v := v d) (o d) O W hO).trans (wp_mono frame _ _ fun _ => waits_post (q := 0))
  rw [← hf d] at ht
  exact ht

/-- A SparseCore's share is its tasks' shares, before and after. -/
theorem vecSplit : (K (F := F)).VecSplit' (P k v o f) 0 := by
  intro d c
  show coreShare d (k d) (v d) (o d) (Fin.cast nCore_zero c) ⊢ |={Set.univ}=> iprop(
      (bigSep Finset.univ fun i : Fin ((K (F := F)).nSub 0) => taskShare d (k d) (v d) (o d) (taskOf c i))
      ∗ ((bigSep Finset.univ fun i : Fin ((K (F := F)).nSub 0) => taskShare d (k d) (v d) (f d) (taskOf c i))
          -∗ coreShare d (k d) (v d) (f d) (Fin.cast nCore_zero c)))
  rw [core_tasks, core_tasks]
  iintro H
  imodintro
  isplitl [H]; · iexact H
  iintro H
  iexact H

/-- What the call takes for the two SparseCores, -/
theorem st0_eq (d : Dev nD) : (bigSep Finset.univ fun c : Fin ((K (F := F)).nCore 0) => (P k v o f).st 0 d c)
    = iprop(((kLoc d ↦{fullShare} k d) ∗ (vLoc d ↦{fullShare} v d)) ∗ (oLoc d ↦{fullShare} o d)) := core_shares d (k d) (v d) (o d)
/-- and what it hands back. -/
theorem dn0_eq (d : Dev nD) : (bigSep Finset.univ fun c : Fin ((K (F := F)).nCore 0) => (P k v o f).dn 0 d c)
    = iprop(((kLoc d ↦{fullShare} k d) ∗ (vLoc d ↦{fullShare} v d)) ∗ (oLoc d ↦{fullShare} f d)) :=
  core_shares d (k d) (v d) (f d)

/-- The launch's ghost element: the handshakes' rounds, and nothing of the kernel's own. -/
def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P k v o f).x q thr) := by
  unfold u₀
  iintro Hu
  ihave H := (ownU_pair _ _) $$ Hu
  icases H with ⟨HH, -⟩
  imodintro
  isplitl [HH]; · iexact HH
  isplitr; · rw [bigSep_nothing]; iempintro
  unfold P
  dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

end Cert.Proof.Unpool

end
-- ==== Proof.Run.lean ====
/- The kernel's run: the host's operations up to the sort, the call, the last reshape; what it leaves in memory. -/
module

public import proofs.«01_k».proof.Proof.Launch

@[expose] public section

noncomputable section

namespace Cert.Proof.Unpool

open Cert.KernelIdeal Cert.KernelIdeal.Gen Cert.Paint

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)

/-- The host's operations before the call, in order. -/
abbrev ops0 : List (HloOp τ sig (Elt F)) :=
  [ StableHlo.reshape main_arg0 main_v0 (rfl : (.f32 : EltTy) = .f32) shapeCasts_S2x768x112x112_S19267584,
    StableHlo.nullary main_v1 (iotaInDim S1536 32 0),
    StableHlo.unary main_v1 main_v2 (broadcastInDim S1536x1 ![0] bcast_S1536_S1536x1_0 : (⟨S1536, .i32⟩ : BufTy).Contents (Elt F) → (⟨S1536x1, .i32⟩ : BufTy).Contents (Elt F)),
    StableHlo.reshape main_arg1 main_v3 (rfl : (.i32 : EltTy) = .i32) shapeCasts_S2x768x112x112_S1536x12544,
    StableHlo.nullary main_c (constantI S_ 32 50176#32),
    StableHlo.unary main_c main_v4 (broadcastInDim S1536x1 ![] bcast_S_S1536x1 : (⟨S_, .i32⟩ : BufTy).Contents (Elt F) → (⟨S1536x1, .i32⟩ : BufTy).Contents (Elt F)),
    StableHlo.binary main_v2 main_v4 main_v5 (muli : (⟨S1536x1, .i32⟩ : BufTy).Contents (Elt F) → (⟨S1536x1, .i32⟩ : BufTy).Contents (Elt F) → (⟨S1536x1, .i32⟩ : BufTy).Contents (Elt F)),
    StableHlo.unary main_v5 main_v6 (broadcastInDim S1536x12544 ![0, 1] bcast_S1536x1_S1536x12544_0_1 : (⟨S1536x1, .i32⟩ : BufTy).Contents (Elt F) → (⟨S1536x12544, .i32⟩ : BufTy).Contents (Elt F)),
    StableHlo.binary main_v3 main_v6 main_v7 (addi : (⟨S1536x12544, .i32⟩ : BufTy).Contents (Elt F) → (⟨S1536x12544, .i32⟩ : BufTy).Contents (Elt F) → (⟨S1536x12544, .i32⟩ : BufTy).Contents (Elt F)),
    StableHlo.reshape main_v7 main_v8 (rfl : (.i32 : EltTy) = .i32) shapeCasts_S1536x12544_S19267584,
    StableHlo.binary main_v8 main_v0 main_v9_0 ((fun x y => (Host.unstableSort2 S19267584 0 comparator_i32_f32_d0 x y).1) : (⟨S19267584, .i32⟩ : BufTy).Contents (Elt F) → (⟨S19267584, .f32⟩ : BufTy).Contents (Elt F) → (⟨S19267584, .i32⟩ : BufTy).Contents (Elt F)),
    StableHlo.binary main_v8 main_v0 main_v9_1 ((fun x y => (Host.unstableSort2 S19267584 0 comparator_i32_f32_d0 x y).2) : (⟨S19267584, .i32⟩ : BufTy).Contents (Elt F) → (⟨S19267584, .f32⟩ : BufTy).Contents (Elt F) → (⟨S19267584, .f32⟩ : BufTy).Contents (Elt F)) ]
/-- The one after it. -/
abbrev opLast : HloOp τ sig (Elt F) := StableHlo.reshape main_v10 main_v11 (rfl : (.f32 : EltTy) = .f32) shapeCasts_S77070336_S2x768x224x224

/-- The program is those operations, the call, and the last operation. -/
theorem main_eq (d : Dev nD) : main (F := F) d = StableHlo.seq ops0 >>= fun _ => (do sc.run d 0; hlo rfl opLast (fun _ => .ret ⟨⟩); pure ⟨⟩) := rfl

/-- The device's arrays that matter after the call: the keys, the values, the result flat, the result, the arguments; -/
abbrev k' : DevRef τ sig := Proc.devRef .tc (main_v9_0 : Ref sig .tc)
abbrev v' : DevRef τ sig := Proc.devRef .tc (main_v9_1 : Ref sig .tc)
abbrev o' : DevRef τ sig := Proc.devRef .tc (main_v10 : Ref sig .tc)
abbrev r' : DevRef τ sig := Proc.devRef .tc (main_v11 : Ref sig .tc)
abbrev a' : DevRef τ sig := Proc.devRef .tc (main_arg0 : Ref sig .tc)
abbrev b' : DevRef τ sig := Proc.devRef .tc (main_arg1 : Ref sig .tc)
/-- the others; -/
abbrev others : Finset (DevRef τ sig) := ({main_v0, main_v1, main_v2, main_v3, main_c, main_v4, main_v5, main_v6, main_v7, main_v8} : Finset (Ref sig .tc)).image (Proc.devRef .tc)
/-- the arrays the call leaves alone, and all of them. -/
abbrev kept : Finset (DevRef τ sig) := insert r' (insert a' (insert b' others))
abbrev arrays : Finset (DevRef τ sig) := insert k' (insert v' (insert o' kept))

omit [FloatOps F] in
theorem held_arrays (d : Dev nD) (W : Valuation τ sig (Elt F)) :
    (held (SparseCore.T d) arrays W : sProp 𝕄)
      = iprop((kLoc d ↦{fullShare} W k') ∗ (vLoc d ↦{fullShare} W v') ∗ (oLoc d ↦{fullShare} W o') ∗ held (SparseCore.T d) kept W) := by
  unfold held
  rw [SparseCore.bigSep_insert' (by decide), SparseCore.bigSep_insert' (by decide), SparseCore.bigSep_insert' (by decide)]

omit [FloatOps F] in
theorem held_kept (d : Dev nD) (W : Valuation τ sig (Elt F)) :
    (held (SparseCore.T d) kept W : sProp 𝕄)
      = iprop(((SparseCore.T d).loc main_v11 ↦{fullShare} W r') ∗ ((SparseCore.T d).loc main_arg0 ↦{fullShare} W a')
          ∗ ((SparseCore.T d).loc main_arg1 ↦{fullShare} W b') ∗ held (SparseCore.T d) others W) := by
  unfold held
  rw [SparseCore.bigSep_insert' (by decide), SparseCore.bigSep_insert' (by decide), SparseCore.bigSep_insert' (by decide)]

/-- What the arrays hold at the launch, before the call, -/
def V0 (d : Dev nD) : Valuation τ sig (Elt F) := fun b => m (d, b)
def V1 (d : Dev nD) : Valuation τ sig (Elt F) := StableHlo.after ops0 (V0 m d)
/-- the sorted keys and values, -/
def keys (d : Dev nD) : S19267584.Idx → BitVec 32 := V1 m d k'
def vals (d : Dev nD) : S19267584.Idx → F .f32 := V1 m d v'
/-- the drawn result, -/
def drawing (d : Dev nD) : S77070336.Idx → F .f32 := result (keys m d) (vals m d)
/-- and what they hold after the call. -/
def V2 (d : Dev nD) : Valuation τ sig (Elt F) := Function.update (V1 m d) o' (drawing m d)

omit [FloatOps F] in
/-- These are all the TensorCore's arrays that outlive a scope. -/
theorem arrays_eq : Pipeline.ucRefs τ sig = arrays := by decide

theorem unscoped_held (d : Dev nD) : (unscopedBufs d (fun b => m ((SparseCore.T d).loc b)) : sProp 𝕄) = held (SparseCore.T d) arrays (V0 m d) :=
  arrays_eq ▸ Pipeline.unscopedBufs_held d (V0 m d)

theorem ops0_sub : ∀ op ∈ (ops0 : List (HloOp τ sig (Elt F))), op.bufs ⊆ arrays :=
  arrays_eq ▸ List.forall_iff_forall_mem.mp
    (⟨Pipeline.sub_ucRefs _ (StableHlo.reshape_bufs_sub ..), Pipeline.sub_ucRefs _ (StableHlo.nullary_bufs_sub ..),
      Pipeline.sub_ucRefs _ (StableHlo.unary_bufs_sub ..), Pipeline.sub_ucRefs _ (StableHlo.reshape_bufs_sub ..),
      Pipeline.sub_ucRefs _ (StableHlo.nullary_bufs_sub ..), Pipeline.sub_ucRefs _ (StableHlo.unary_bufs_sub ..),
      Pipeline.sub_ucRefs _ (StableHlo.binary_bufs_sub ..), Pipeline.sub_ucRefs _ (StableHlo.unary_bufs_sub ..),
      Pipeline.sub_ucRefs _ (StableHlo.binary_bufs_sub ..), Pipeline.sub_ucRefs _ (StableHlo.reshape_bufs_sub ..),
      Pipeline.sub_ucRefs _ (StableHlo.binary_bufs_sub ..), Pipeline.sub_ucRefs _ (StableHlo.binary_bufs_sub ..)⟩ :
      (ops0 : List (HloOp τ sig (Elt F))).Forall fun op => op.bufs ⊆ Pipeline.ucRefs τ sig)

theorem opLast_sub : (opLast (F := F)).bufs ⊆ arrays := arrays_eq ▸ Pipeline.sub_ucRefs _ (StableHlo.reshape_bufs_sub ..)

theorem ops0_fresh : ∀ op ∈ (ops0 : List (HloOp τ sig (Elt F))), op.fresh = ∅ := by
  intro op hop
  fin_cases hop <;> rfl

/-- After the call the result is drawn, and nothing else has changed. -/
theorem held_V2 (d : Dev nD) :
    (held (SparseCore.T d) arrays (V2 m d) : sProp 𝕄)
      = iprop((kLoc d ↦{fullShare} keys m d) ∗ (vLoc d ↦{fullShare} vals m d) ∗ (oLoc d ↦{fullShare} drawing m d) ∗ held (SparseCore.T d) kept (V1 m d)) := by
  rw [held_arrays]
  have h : (held (SparseCore.T d) kept (V2 m d) : sProp 𝕄) = held (SparseCore.T d) kept (V1 m d) := by
    unfold held
    refine bigSep_congr fun b hb => ?_
    have hne : b ≠ o' := fun e => absurd (e ▸ hb) (by decide)
    unfold V2
    rw [Function.update_of_ne hne]
  rw [h]
  unfold V2
  rw [Function.update_self, Function.update_of_ne (show k' ≠ o' by decide), Function.update_of_ne (show v' ≠ o' by decide)]
  rfl

/-- What the arrays hold at the end. -/
def V3 (d : Dev nD) : Valuation τ sig (Elt F) := (opLast (F := F)).result (V2 m d)

theorem V1_a (d : Dev nD) : V1 m d a' = m ((SparseCore.T d).loc main_arg0) := by
  unfold V1
  after_results
  rfl
theorem V1_b (d : Dev nD) : V1 m d b' = m ((SparseCore.T d).loc main_arg1) := by
  unfold V1
  after_results
  rfl
theorem V3_a (d : Dev nD) : V3 m d a' = m ((SparseCore.T d).loc main_arg0) :=
  ((opLast (F := F)).result_of_not_mem (V2 m d) (b := a') (show a' ∉ ({r'} : Finset (DevRef τ sig)) by decide)).trans
    ((Function.update_of_ne (show a' ≠ o' by decide) _ _).trans (V1_a m d))
theorem V3_b (d : Dev nD) : V3 m d b' = m ((SparseCore.T d).loc main_arg1) :=
  ((opLast (F := F)).result_of_not_mem (V2 m d) (b := b') (show b' ∉ ({r'} : Finset (DevRef τ sig)) by decide)).trans
    ((Function.update_of_ne (show b' ≠ o' by decide) _ _).trans (V1_b m d))
theorem V3_r (d : Dev nD) : V3 m d r' = shapeCast _ (drawing m d) shapeCasts_S77070336_S2x768x224x224 := by
  show StableHlo.after [opLast] (V2 m d) r' = _
  after_results
  exact congrArg (fun f => shapeCast _ f shapeCasts_S77070336_S2x768x224x224) (Function.update_self _ _ _)

/-- The payload of this launch: the sorted rows, and the result array at whatever it held. -/
abbrev Pm : (K (F := F)).Pay (nD := nD) (Val := Elt F) (Name := ℕ) (U := UU) := P (keys m) (vals m) (fun d => V1 m d o') (drawing m)

/-- What the run leaves of device `d`: the result and the arguments. -/
abbrev FIN (d : Dev nD) : sProp 𝕄 :=
  iprop(((SparseCore.T d).loc main_v11 ↦{fullShare} V3 m d r') ∗ ((SparseCore.T d).loc main_arg0 ↦{fullShare} V3 m d a')
    ∗ ((SparseCore.T d).loc main_arg1 ↦{fullShare} V3 m d b'))

theorem after_call (d : Dev nD) :
    iprop(((kLoc d ↦{fullShare} keys m d) ∗ (vLoc d ↦{fullShare} vals m d)) ∗ (oLoc d ↦{fullShare} drawing m d) ∗ held (SparseCore.T d) kept (V1 m d))
      ⊢ (held (SparseCore.T d) arrays (V2 m d) : sProp 𝕄) := by
  rw [held_V2]
  iintro ⟨⟨Hk, Hv⟩, Ho, H⟩
  isplitl [Hk]; · iexact Hk
  isplitl [Hv]; · iexact Hv
  isplitl [Ho] <;> iassumption

theorem before_call (d : Dev nD) :
    (held (d.tc : Thread nD τ) arrays (StableHlo.after ops0 (V0 m d)) : sProp 𝕄)
      ⊢ iprop((((kLoc d ↦{fullShare} keys m d) ∗ (vLoc d ↦{fullShare} vals m d)) ∗ (oLoc d ↦{fullShare} V1 m d o')) ∗ held (SparseCore.T d) kept (V1 m d)) := by
  show (held (SparseCore.T d) arrays (V1 m d) : sProp 𝕄) ⊢ _
  rw [held_arrays]
  unfold keys vals
  iintro ⟨Hk, Hv, Ho, H⟩
  isplitl [Hk Hv Ho]
  · isplitl [Hk Hv]
    · isplitl [Hk] <;> iassumption
    · iexact Ho
  · iexact H

theorem at_end (d : Dev nD) : (held (SparseCore.T d) arrays (V3 m d) : sProp 𝕄) ⊢ FIN m d := by
  rw [held_arrays, held_kept]
  iintro ⟨-, -, -, Hr, Ha, Hb, -⟩
  isplitl [Hr]; · iexact Hr
  isplitl [Ha] <;> iassumption

set_option backward.isDefEq.respectTransparency.types false in
/-- @main on device `d`'s TensorCore: the host's operations, the call, the last reshape. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d arrays _ ops0 ops0_sub ops0_fresh (V0 m d)) $$ [Hb Hheld]
  · isplitl [Hb]; · iexact Hb
    iexact Hheld
  iintro ⟨Hb, Hheld⟩
  ihave Hh := (before_call (F := F) m d) $$ Hheld
  icases Hh with ⟨Hcall, Hkept⟩
  simp only [wp_bind, wp_pure]
  iapply ((K (F := F)).wp_run (D (F := F)) 𝒱 (EH := EH) (P := Pm m) κ d 0) $$ [Hst Hcall Hkept Hb Hts]
  isplitr; · iexact Hctx
  isplitl [Hst]; · iexact Hst
  isplitl [Hcall]
  · rw [st0_eq]; iexact Hcall
  iintro ⟨Hst, Hdn⟩
  ihave Hdn' := (Entails.of_eq (dn0_eq (keys m) (vals m) (fun d => V1 m d o') (drawing m) d)) $$ Hdn
  icases Hdn' with ⟨Hkv, Ho⟩
  iapply (wp_hlo_within 𝒱 (SparseCore.T d) none Set.univ (op := opLast) (S := arrays) opLast_sub (V := V2 m d)) $$ [Hb Hkv Ho Hkept]
  · isplitl [Hb]; · iexact Hb
    iapply (after_call m d)
    isplitl [Hkv]; · iexact Hkv
    isplitl [Ho] <;> iassumption
  iintro ⟨Hb, Hheld⟩
  rw [wp_ret]; imodintro; imodintro
  isplitl [Hst]; · iexact Hst
  isplitr [Hb Hts]
  · iapply (at_end m d)
    iexact Hheld
  isplitl [Hb] <;> iassumption

/-- What the claim reads of device `d`'s final memory. -/
def fq (d : Dev nD) (s' : Phys nD τ sig (Elt F)) : Prop :=
  s'.mem.mem ((SparseCore.T d).loc main_v11) = V3 m d r' ∧ s'.mem.mem ((SparseCore.T d).loc main_arg0) = V3 m d a'
    ∧ s'.mem.mem ((SparseCore.T d).loc main_arg1) = V3 m d b'

theorem hfin (d : Dev nD) (s' : Phys nD τ sig (Elt F)) : iprop(FIN m d ∗ SI s') ⊢ (⌜fq m d s'⌝ : sProp 𝕄) := by
  iintro ⟨⟨Hr, Ha, Hb⟩, HSI⟩
  ihave H := (persistent_entails_right (SI_pointsTo_agree (st := s') (ℓ := (SparseCore.T d).loc main_v11) (I := Finset.univ) (q := fullShare) (f := V3 m d r'))) $$ [HSI Hr]
  · isplitl [HSI] <;> iassumption
  icases H with ⟨%h1, HSI, -⟩
  ihave H := (persistent_entails_right (SI_pointsTo_agree (st := s') (ℓ := (SparseCore.T d).loc main_arg0) (I := Finset.univ) (q := fullShare) (f := V3 m d a'))) $$ [HSI Ha]
  · isplitl [HSI] <;> iassumption
  icases H with ⟨%h2, HSI, -⟩
  ihave H := (SI_pointsTo_agree (st := s') (ℓ := (SparseCore.T d).loc main_arg1) (I := Finset.univ) (q := fullShare) (f := V3 m d b')) $$ [HSI Hb]
  · isplitl [HSI] <;> iassumption
  icases H with %h3
  ipureintro
  exact ⟨funext fun i => h1 i (Finset.mem_univ i), funext fun i => h2 i (Finset.mem_univ i), funext fun i => h3 i (Finset.mem_univ i)⟩

/-- The result drawn from the sorted rows, the arguments unchanged, every semaphore back at zero. -/
def QC : PUnit × MemSt nD τ sig (Elt F) → Prop := fun r =>
  (∀ d : Dev nD, r.2.mem ((SparseCore.T d).loc main_v11) = shapeCast S2x768x224x224 (drawing m d) shapeCasts_S77070336_S2x768x224x224
    ∧ r.2.mem ((SparseCore.T d).loc main_arg0) = m ((SparseCore.T d).loc main_arg0)
    ∧ r.2.mem ((SparseCore.T d).loc main_arg1) = m ((SparseCore.T d).loc main_arg1)) ∧ r.2.sem = fun _ => 0

/-- The kernel's run, if every sorted key names a place of its row's plane. -/
theorem run_main [∀ e, Nonempty (Elt F e)] (hk : ∀ d, InRows (keys m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ _ hk fun _ => rfl)
    (fun q _ => match q with | 0 => SparseCore.Cfg.VecSplit.of_plain (vecSplit _ _ _ _))
    m ρ main (fun _ => iprop(emp)) (FIN m) (u₀ (F := F)) (sep_elim_left.trans (hu₀ _ _ _ _)) (hmain m ρ) (fq m) (hfin m) (QC m)
    (fun _ h hz => ⟨fun d => ⟨(h d).1.trans (V3_r m d), (h d).2.1.trans (V3_a m d), (h d).2.2.trans (V3_b m d)⟩, hz⟩)

end Cert.Proof.Unpool

end
-- ==== Proof.Inputs.lean ====
/- What the preconditions say of the indices, and what the kernel's host operations make of the arguments. -/
module

public import proofs.«01_k».proof.Proof.Places
public import proofs.«01_k».proof.Proof.Run
public import proofs.«01_k».proof.Proof.Gen.Pre_in_range
public import proofs.«01_k».proof.Proof.Gen.Pre_reads_back
public import Idealize.ShloMosaic.Lib.ReduceAll

@[expose] public section

noncomputable section

namespace Cert.Proof.Unpool

open Cert.KernelIdeal Cert.KernelIdeal.Gen
open Idealize.ShloMosaic

variable {F : FTy → Type} [FloatOps F]

/-- Where every index passes both comparisons of the precondition, it names a place of its plane. -/
theorem inPlane_of_all (i : S2x768x112x112.Idx → BitVec 32)
    (h : ∀ j, IntOp.andi (IntOp.cmpi .sge (i j) 0#32) (IntOp.cmpi .slt (i j) 50176#32) = 1#1) : InPlane i := fun j => by
  have e := h j
  rw [show (50176#32 : BitVec 32) = BitVec.ofNat 32 50176 from rfl, WordCmp.andi_sge_zero_slt_ofNat (by decide), WordCmp.ofBool_decide_eq_one_iff] at e
  exact e

/-- The range precondition says that every index names a place of its plane. -/
theorem inPlane_of_in_range [Cert.Pre_in_range.Facts] (x : S2x768x112x112.Idx → F .f32) (i : S2x768x112x112.Idx → BitVec 32)
    (h : Cert.Pre_in_range.fn (F := F) x i = fun _ => 1#1) : InPlane i := by
  unfold Cert.Pre_in_range.fn at h
  haveI : Subsingleton Cert.Pre_in_range.S_.Idx := ⟨fun a b => funext fun q => q.elim0⟩
  exact inPlane_of_all i fun j => Host.reduce_andi_all _ _ _ _ _ (congrFun h ValueIdx.ix0) j

variable (m : (ℓ : Loc nD τ sig) → Buf (Elt F) ℓ)

/-- The arguments of device `d`. -/
abbrev argX (d : Dev nD) : S2x768x112x112.Idx → F .f32 := m ((SparseCore.T d).loc main_arg0)
abbrev argI (d : Dev nD) : S2x768x112x112.Idx → BitVec 32 := m ((SparseCore.T d).loc main_arg1)

set_option maxHeartbeats 2000000 in
/-- What the call reads: the sorted keys and the sorted values of the arguments. -/
theorem keys_eq (d : Dev nD) : keys m d = sortedKeys (argX m d) (argI m d) := by
  unfold keys V1
  after_results <;> rfl

set_option maxHeartbeats 2000000 in
theorem vals_eq (d : Dev nD) : vals m d = sortedVals (argX m d) (argI m d) := by
  unfold vals V1
  after_results <;> rfl

/-- Where every index names a place of its plane, every sorted key names a place of its row's plane. -/
theorem inRows (d : Dev nD) (h : InPlane (argI m d)) : InRows (keys m d) := by
  rw [keys_eq]
  obtain ⟨σ, _, _, hs⟩ := sorted_reads (argX m d) h
  exact hs.inRows

end Cert.Proof.Unpool
-- ==== Proof.ReadPairs.lean ====
/- The host's gather of scalars out of a matrix at pairs of index words. -/
module

public import Idealize.ShloMosaic.Lib.Routing.OpsSet

@[expose] public section

namespace Cert.ReadPairs

open Idealize.ShloMosaic Idealize.ShloMosaic.ValueIdx Idealize.ShloMosaic.Routing

variable {R C A B w : ℕ} (d : GatherDims (shape2 R C) (shape3 A B 2) (shape2 A B))

/-- The index words of entry `(a, b)` stand at `(a, b, 0)` and `(a, b, 1)`. -/
theorem word_at (hcoll : d.collapsedSliceDims = [0, 1]) (hob : d.operandBatchingDims = []) (hsim : d.startIndexMap = [0, 1]) (hivd : d.indexVectorDim = 2)
    (a : Fin A) (b : Fin B) (q : Fin 2) (hq : d.startIndexMap.idxOf q < d.startIndexMap.length) :
    d.siIdx (ix2 a b) ⟨d.startIndexMap.idxOf q, hq⟩ = ix3 a b q := by
  have hno : d.offsetDims = [] := List.eq_nil_of_length_eq_zero (by
    rw [d.offset_length]
    show ((shape2 R C).kept (d.collapsedSliceDims ++ d.operandBatchingDims)).length = 0
    rw [hcoll, hob]
    rfl)
  have hk : d.siKept = [0, 1] := by
    show (List.finRange 3).filter (fun y => decide (y.val ≠ d.indexVectorDim)) = _
    rw [hivd]
    rfl
  have hb : d.batchDims = [0, 1] := by
    show (shape2 A B).kept d.offsetDims = _
    rw [hno]
    rfl
  have pick : ∀ (l : List (Fin 2)) (n : ℕ) (h : n < l.length) (y : Fin 2), l = [0, 1] → n = y.val → l[n]'h = y := by
    intro l n h y hl hn
    subst hl hn
    fin_cases y <;> rfl
  funext y
  refine Fin.ext ?_
  match y with
  | ⟨0, _⟩ =>
    unfold GatherDims.siIdx GatherDims.siCoord
    rw [dif_neg (by rw [hivd]; exact (show (0 : ℕ) ≠ 2 by decide))]
    exact congrArg (fun z => (ix2 a b z).val) (pick _ _ _ 0 hb (by rw [hk]; rfl))
  | ⟨1, _⟩ =>
    unfold GatherDims.siIdx GatherDims.siCoord
    rw [dif_neg (by rw [hivd]; exact (show (1 : ℕ) ≠ 2 by decide))]
    exact congrArg (fun z => (ix2 a b z).val) (pick _ _ _ 1 hb (by rw [hk]; rfl))
  | ⟨2, _⟩ =>
    unfold GatherDims.siIdx
    rw [dif_pos (by rw [hivd])]
    show d.startIndexMap.idxOf q = q.val
    rw [hsim]
    fin_cases q <;> rfl

/-- Entry `(a, b)` of the gather is the matrix's entry its two index words name. -/
theorem gather_pair {α : Type} (hcoll : d.collapsedSliceDims = [0, 1]) (hob : d.operandBatchingDims = []) (hsim : d.startIndexMap = [0, 1])
    (hivd : d.indexVectorDim = 2) (x : (shape2 R C).Idx → α) (idx : IVec (shape3 A B 2) w) (a : Fin A) (b : Fin B) (r : Fin R) (c : Fin C)
    (hr : (idx (ix3 a b 0)).toInt = r.val) (hc : (idx (ix3 a b 1)).toInt = c.val) : Host.gather d x idx (ix2 a b) = x (ix2 r c) := by
  have hm : ∀ q : Fin 2, q ∈ d.startIndexMap := fun q => by rw [hsim]; fin_cases q <;> simp
  have hin : ∀ q : Fin 2, q ∈ d.collapsedSliceDims := fun q => by rw [hcoll]; fin_cases q <;> simp
  have hst : ∀ (q : Fin 2) (z : ℕ), (idx (ix3 a b q)).toInt = z → z < (shape2 R C).size q → d.start (ix2 a b) idx q = z := fun q z hz hlt => by
    unfold GatherDims.start
    rw [dif_pos (hm q), word_at d hcoll hob hsim hivd, hz, d.slice_collapsed q (hin q)]
    omega
  unfold Host.gather
  refine congrArg x (funext fun q => Fin.ext ?_)
  show d.start (ix2 a b) idx q + d.batchCoord (ix2 a b) q + d.offCoord (ix2 a b) q = _
  rw [d.batchCoord_eq_zero _ _ (by rw [hob]; exact List.not_mem_nil), d.offCoord_eq_zero _ _ fun h => ((d.mem_sKept q).1 h).1 (hin q)]
  match q with
  | ⟨0, _⟩ => exact hst 0 r.val hr r.isLt
  | ⟨1, _⟩ => exact hst 1 c.val hc c.isLt

end Cert.ReadPairs
-- ==== Proof.Pairs.lean ====
/- The reference's index words: beside every entry's row its index, read back as numbers; and its planes. -/
module

public import proofs.«01_k».proof.Proof.Gen.ReferenceIdeal.Run
public import Idealize.ShloMosaic.Lib.Routing.OpsSet
public import Idealize.ShloMosaic.Lib.Pipeline.Value

@[expose] public section

noncomputable section

namespace Cert.Proof.Unpool

open Cert.ReferenceIdeal Cert.ReferenceIdeal.Gen
open Idealize.ShloMosaic Idealize.ShloMosaic.Routing
open Idealize.ShloMosaic.StableHlo.Predicate (ij ixP)

variable {F : FTy → Type} [FloatOps F]

/-- A table of words as the scatter's index words on one axis of `e` entries: a negative one counts from the end. -/
def axisWords (s : Shape) (h : S_.BroadcastsInDim s ![]) (e : BitVec 32) (f : IVec s 32) : IVec s 32 :=
  select (cmpi .slt f (broadcastInDim s ![] h (constantI S_ 32 0#32))) (addi f (broadcastInDim s ![] h (constantI S_ 32 e))) f
/-- The reference's index words: each entry's row, -/
def rowWords : IVec S1536x12544 32 :=
  broadcastInDim S1536x12544 ![0, 1] bcast_S1536x1_S1536x12544_0_1
    (axisWords S1536x1 bcast_S_S1536x1 1536#32 (broadcastInDim S1536x1 ![0] bcast_S1536_S1536x1_0 (iotaInDim S1536 32 0)))
/-- and beside it the entry's index. -/
def pairs (f : IVec S1536x12544 32) : IVec S1536x12544x2 32 :=
  concatenate S1536x12544x2 2
    [⟨S1536x12544x1, broadcastInDim S1536x12544x1 ![0, 1] bcast_S1536x12544_S1536x12544x1_0_1 rowWords⟩,
     ⟨S1536x12544x1, broadcastInDim S1536x12544x1 ![0, 1] bcast_S1536x12544_S1536x12544x1_0_1 (axisWords S1536x12544 bcast_S_S1536x12544 50176#32 f)⟩]
    concatenates_S1536x12544x1_S1536x12544x1_S1536x12544x2_d2
/-- The reference's planes: the inputs set at their places, over zeros. -/
def planes (x : S1536x12544.Idx → F .f32) (f : IVec S1536x12544 32) : S1536x50176.Idx → F .f32 :=
  Host.scatter scatter_S1536x50176_S1536x12544x2_S1536x12544_n_01_01_2 (fun _ b => b)
    (broadcastInDim S1536x50176 ![] bcast_S_S1536x50176 (constant S_ .f32 0x00000000#32)) (pairs f) x

/-- A word below half the range is left as it is. -/
theorem axisWords_apply (s : Shape) (h : S_.BroadcastsInDim s ![]) (e : BitVec 32) (f : IVec s 32) (j : s.Idx) (hj : (f j).toNat < 2 ^ 31) :
    axisWords s h e f j = f j := by
  show Scalar.select (IntOp.cmpi .slt (f j) 0#32) (IntOp.addi (f j) e) (f j) = f j
  exact wrap_of_lt _ _ hj

theorem rowWords_apply (r : Fin 1536) (c : Fin 12544) : rowWords (ij r c) = BitVec.ofNat 32 r.val := by
  have hr := r.isLt
  have e : broadcastInDim S1536x1 ![0] bcast_S1536_S1536x1_0 (iotaInDim S1536 32 0) (ixP r) = BitVec.ofNat 32 r.val := by
    rw [StableHlo.Predicate.bcast_col1, StableHlo.Predicate.iota_apply]
  unfold rowWords
  rw [StableHlo.Predicate.bcast_of_col, axisWords_apply _ _ _ _ _ (by rw [e, BitVec.toNat_ofNat]; omega), e]

/-- A table read as a table of columns of one. -/
theorem column_apply (f : IVec S1536x12544 32) (r : Fin 1536) (c : Fin 12544) (z : Fin 1) :
    broadcastInDim S1536x12544x1 ![0, 1] bcast_S1536x12544_S1536x12544x1_0_1 f (ValueIdx.ix3 r c z) = f (ij r c) := by
  refine broadcastInDim_apply _ _ _ _ _ fun a => ?_
  match a with
  | ⟨0, _⟩ => rfl
  | ⟨1, _⟩ => rfl

variable (f : IVec S1536x12544 32)

theorem pairs_row (r : Fin 1536) (c : Fin 12544) : (pairs f (ValueIdx.ix3 r c 0)).toInt = r.val := by
  have hr := r.isLt
  unfold pairs
  rw [concatenate_pair_apply_left (t := S1536x12544x2) (s₁ := S1536x12544x1) (s₂ := S1536x12544x1) 2 _ _ _ _ rfl (ValueIdx.ix3 r c (0 : Fin 1)) (fun b => by match b with | ⟨0, _⟩ => rfl | ⟨1, _⟩ => rfl | ⟨2, _⟩ => rfl),
    column_apply, rowWords_apply, StableHlo.Predicate.toInt_ofNat_small _ (by omega)]

theorem pairs_col (r : Fin 1536) (c : Fin 12544) (hf : (f (ij r c)).toNat < 50176) : (pairs f (ValueIdx.ix3 r c 1)).toInt = (f (ij r c)).toNat := by
  have h31 : (f (ij r c)).toNat < 2 ^ 31 := by omega
  unfold pairs
  rw [concatenate_pair_apply_right (t := S1536x12544x2) (s₁ := S1536x12544x1) (s₂ := S1536x12544x1) 2 _ _ _ _ rfl rfl (ValueIdx.ix3 r c (0 : Fin 1))
      (fun b hb => by match b with | ⟨0, _⟩ => rfl | ⟨1, _⟩ => rfl | ⟨2, _⟩ => exact (hb rfl).elim) rfl,
    column_apply, axisWords_apply _ _ _ _ _ h31, StableHlo.Predicate.toInt_eq_toNat_of_lt h31]

end Cert.Proof.Unpool
-- ==== Proof.ReadBack.lean ====
/- The reference's planes, what the precondition that they read back says, and why the kernel's drawing is then the same. -/
module

public import proofs.«01_k».proof.Proof.Inputs
public import proofs.«01_k».proof.Proof.ReadPairs
public import proofs.«01_k».proof.Proof.Pairs
public import Idealize.ShloMosaic.Lib.Pointwise.Select

@[expose] public section

noncomputable section

namespace Cert.Proof.Unpool

open Cert.KernelIdeal Cert.KernelIdeal.Gen
open Idealize.ShloMosaic Idealize.ShloMosaic.Routing
open Idealize.ShloMosaic.StableHlo.Predicate (ij ixP)

variable {F : FTy → Type} [FloatOps F]

theorem and_one (a b : BitVec 1) (h : IntOp.andi a b = 1#1) : a = 1#1 ∧ b = 1#1 := by
  revert a b
  decide

/-- The reference's planes reshaped to its result and back, read at the pairs of row and index. -/
def readBack (x : S1536x12544.Idx → F .f32) (f : IVec S1536x12544 32) : S1536x12544.Idx → F .f32 :=
  Host.gather Cert.Pre_reads_back.gather_S1536x50176_S1536x12544x2_S1536x12544_n_01_n_n_01_2_11
    (shapeCast Cert.Pre_reads_back.S1536x50176 (shapeCast Cert.Pre_reads_back.S2x768x224x224 (planes x f)
      Cert.Pre_reads_back.Gen.facts.shapeCasts_S1536x50176_S2x768x224x224) Cert.Pre_reads_back.Gen.facts.shapeCasts_S2x768x224x224_S1536x50176)
    (pairs f)

/-- What the precondition computes. -/
theorem fn_eq (x : S2x768x112x112.Idx → F .f32) (i : S2x768x112x112.Idx → BitVec 32) :
    Cert.Pre_reads_back.fn (F := F) x i
      = andi (Cert.Pre_in_range.fn (F := F) x i)
          (Host.reduce IntOp.andi (cmpf .oeq (readBack (rows x) (rows i)) (rows x)) (constantI Cert.Pre_reads_back.S_ 1 1#1)
            Cert.Pre_reads_back.Gen.facts.reducesTo_S1536x12544_S_d0_1 Cert.Pre_reads_back.Gen.facts.h_S_) := rfl

/-- Where the indices name places of their planes, what is read at each entry's pair is the plane's value at the entry's index. -/
theorem readBack_apply (x : S1536x12544.Idx → F .f32) (f : IVec S1536x12544 32) (r : Fin 1536) (c : Fin 12544) (hf : (f (ij r c)).toNat < 50176) :
    readBack x f (ij r c) = planes x f (ij r ⟨(f (ij r c)).toNat, hf⟩) := by
  unfold readBack
  rw [shapeCast_shapeCast]
  exact ReadPairs.gather_pair _ rfl rfl rfl rfl (planes x f) (pairs f) r c r ⟨(f (ij r c)).toNat, hf⟩ (pairs_row _ r c) (pairs_col _ r c hf)

/-- Entries the ideal comparison finds equal are equal. -/
theorem eq_of_cmpf {s : Shape} (a b : s.Idx → Ideal .f32) (j : s.Idx) (h : cmpf .oeq a b j = 1#1) : a j = b j :=
  (Ideal.cmp_oeq_eq_one (a j) (b j)).1 h

/-- The precondition says that every index names a place of its plane, and that reading the reference's planes there gives the inputs. -/
theorem of_reads_back (x : S2x768x112x112.Idx → Ideal .f32) (i : S2x768x112x112.Idx → BitVec 32)
    (h : Cert.Pre_reads_back.fn (F := Ideal) x i = fun _ => 1#1) :
    ∃ hi : InPlane i, ∀ (r : Fin 1536) (c : Fin 12544), planes (rows x) (rows i) (ij r ⟨(rows i (ij r c)).toNat, hi.rows _⟩) = rows x (ij r c) := by
  rw [fn_eq] at h
  haveI : Subsingleton Cert.Pre_reads_back.S_.Idx := ⟨fun a b => funext fun q => q.elim0⟩
  have hi : InPlane i := inPlane_of_in_range x i (funext fun j => (and_one _ _ (congrFun h j)).1)
  refine ⟨hi, fun r c => ?_⟩
  have e := Host.reduce_andi_all _ _ _ _ _ (and_one _ _ (congrFun h ValueIdx.ix0)).2 (ij r c)
  rw [← readBack_apply]
  exact eq_of_cmpf _ _ _ e

end Cert.Proof.Unpool
-- ==== Proof.LastWrite.lean ====
/- The host's scatter that replaces entries: what the last update at an entry leaves, and where an update of a list lands. -/
module

public import Idealize.ShloMosaic.Lib.Routing.OpsSet

@[expose] public section

namespace Cert.LastWrite

open Idealize.ShloMosaic Idealize.ShloMosaic.ValueIdx Idealize.ShloMosaic.Routing

/-- Running through a list in ascending order, replacing what one holds at every hit, ends with the last hit's value. -/
theorem foldl_last {N : ℕ} {α : Type} (hit : Fin N → Prop) [DecidablePred hit] (val : Fin N → α) (a : α) (n : Fin N) (hn : hit n)
    (hlast : ∀ j, n < j → ¬ hit j) : (List.finRange N).foldl (fun a j => if hit j then val j else a) a = val n := by
  obtain ⟨l, r, e⟩ := List.append_of_mem (List.mem_finRange n)
  have hr : ∀ j ∈ r, n < j := by
    have h := List.pairwise_lt_finRange N
    rw [e, List.pairwise_append] at h
    exact (List.pairwise_cons.1 h.2.1).1
  have hfix : ∀ (r : List (Fin N)) (b : α), (∀ j ∈ r, n < j) → r.foldl (fun a j => if hit j then val j else a) b = b := by
    intro r
    induction r with
    | nil => intro b _; rfl
    | cons j r ih =>
      intro b hb
      rw [List.foldl_cons, if_neg (hlast j (hb j List.mem_cons_self))]
      exact ih b fun q hq => hb q (List.mem_cons_of_mem j hq)
  rw [e, List.foldl_append, List.foldl_cons, if_pos hn, hfix r _ hr]

/-- A scatter whose body returns the update, read where update `k` lands and no later one does: update `k`. -/
theorem scatter_last {α : Type} {s si u : Shape} {w : ℕ} (d : ScatterDims s si u) (x : s.Idx → α) (idx : IVec si w) (upd : u.Idx → α) (p : s.Idx) (k : u.Idx)
    (hk : d.resultIdx? k idx = some p) (hlast : ∀ j, u.rowMajor k < u.rowMajor j → d.resultIdx? j idx ≠ some p) :
    Host.scatter d (fun _ b => b) x idx upd p = upd k := by
  rw [scatter_at]
  refine (foldl_last (fun n => d.resultIdx? (u.rowMajor.symm n) idx = some p) (fun n => upd (u.rowMajor.symm n)) (x p) (u.rowMajor k) ?_ ?_).trans ?_
  · show d.resultIdx? (u.rowMajor.symm (u.rowMajor k)) idx = some p
    rw [Equiv.symm_apply_apply]; exact hk
  · intro j hj
    exact hlast _ (by rwa [Equiv.apply_symm_apply])
  · show upd (u.rowMajor.symm (u.rowMajor k)) = _
    rw [Equiv.symm_apply_apply]

/-- Update `n` of a list of scalars, one index word each, lands at entry `p` of a vector exactly when its word, read signed, is `p`. -/
theorem lands_list {M N w : ℕ} (d : ScatterDims (shape1 M) (shape2 N 1) (shape1 N)) (hiw : d.insertedWindowDims = [0])
    (hsd : d.scatterDimsToOperandDims = [0]) (hivd : d.indexVectorDim = 1) (idx : IVec (shape2 N 1) w) (n : Fin N) (p : Fin M) :
    d.resultIdx? (ix1 n) idx = some (ix1 p) ↔ (idx (ix2 n (0 : Fin 1))).toInt = (p.val : Int) := by
  have hm : (0 : Fin 1) ∈ d.scatterDimsToOperandDims := hsd ▸ List.mem_singleton.2 rfl
  have hno : d.window (ix1 n) 0 = 0 := dif_neg fun h => (of_decide_eq_true (List.mem_filter.1 h).2) (hiw ▸ List.mem_singleton.2 rfl)
  have hat : d.siIdx (ix1 n) ⟨d.scatterDimsToOperandDims.idxOf 0, List.idxOf_lt_length_iff.2 hm⟩ = ix2 n (0 : Fin 1) := by
    funext b
    match b with
    | ⟨0, _⟩ =>
      refine Fin.ext ?_
      unfold ScatterDims.siIdx ScatterDims.siCoord
      rw [dif_neg (by rw [hivd]; exact Nat.zero_ne_one)]
      have hq : ∀ q : Fin 1, (ix1 n q).val = n.val := fun q => by rw [Subsingleton.elim q 0]
      exact hq _
    | ⟨1, _⟩ =>
      refine Fin.ext ?_
      unfold ScatterDims.siIdx
      rw [dif_pos (by rw [hivd])]
      show d.scatterDimsToOperandDims.idxOf (0 : Fin 1) = 0
      rw [hsd]
      rfl
  rw [resultIdx?_ix1, hno, show d.start (ix1 n) idx 0 = (idx (ix2 n (0 : Fin 1))).toInt from (dif_pos hm).trans (by rw [hat])]
  exact ⟨fun h => by omega, fun h => by omega⟩

end Cert.LastWrite
-- ==== Proof.InOrder.lean ====
/- The scatter that applies the sorted updates in order, compared with the kernel's drawing. -/
module

public import proofs.«01_k».proof.Proof.Inputs
public import proofs.«01_k».proof.Proof.LastWrite
public import proofs.«01_k».proof.Proof.Gen.InOrderIdeal.Run

@[expose] public section

noncomputable section

namespace Cert.Proof.Unpool

open Cert.KernelIdeal Cert.KernelIdeal.Gen
open Idealize.ShloMosaic Idealize.ShloMosaic.ValueIdx Idealize.ShloMosaic.Routing

variable {F : FTy → Type} [FloatOps F]
variable (k : S19267584.Idx → BitVec 32) (v : S19267584.Idx → F .f32)

/-- The keys as the scatter's index words: a negative one counts from the end, which none is. -/
def words : IVec Cert.InOrderIdeal.S19267584x1 32 :=
  broadcastInDim Cert.InOrderIdeal.S19267584x1 ![0] Cert.InOrderIdeal.Gen.facts.bcast_S19267584_S19267584x1_0
    (select (cmpi .slt k (broadcastInDim S19267584 ![] Cert.InOrderIdeal.Gen.facts.bcast_S_S19267584 (constantI Cert.InOrderIdeal.S_ 32 0#32)))
      (addi k (broadcastInDim S19267584 ![] Cert.InOrderIdeal.Gen.facts.bcast_S_S19267584 (constantI Cert.InOrderIdeal.S_ 32 77070336#32))) k)

/-- The scatter of the values at the keys, in order, over zeros. -/
def scattered : S77070336.Idx → F .f32 :=
  Host.scatter Cert.InOrderIdeal.scatter_S77070336_S19267584x1_S19267584_n_0_0_1 (fun _ b => b)
    (broadcastInDim S77070336 ![] Cert.InOrderIdeal.Gen.facts.bcast_S_S77070336 (constant Cert.InOrderIdeal.S_ .f32 0x00000000#32)) (words k) v

variable {k}

theorem words_apply (hk : ∀ n : Fin 19267584, (k (.ofFin n)).toNat < 2 ^ 31) (n : Fin 19267584) : words k (ValueIdx.ix2 n (0 : Fin 1)) = k (.ofFin n) := by
  unfold words
  rw [← ixP_eq_ix2, StableHlo.Predicate.bcast_col1]
  exact wrap_of_lt _ _ (hk n)

/-- The scatter's update `n` lands at place `p` exactly when its key is `p`. -/
theorem lands_iff (hk : ∀ n : Fin 19267584, (k (.ofFin n)).toNat < 2 ^ 31) (n : Fin 19267584) (p : Fin 77070336) :
    Cert.InOrderIdeal.scatter_S77070336_S19267584x1_S19267584_n_0_0_1.resultIdx? (.ofFin n) (words k) = some (.ofFin p) ↔ (k (.ofFin n)).toNat = p.val := by
  rw [ofFin_eq_ix1 n, ofFin_eq_ix1 p]
  refine (LastWrite.lands_list _ rfl rfl rfl (words k) n p).trans ?_
  rw [words_apply hk, StableHlo.Predicate.toInt_eq_toNat_of_lt (hk n), ← ofFin_eq_ix1]
  exact Int.ofNat_inj

/-- The scatter in order and the drawing agree. -/
theorem RowSorted.scattered_eq (h : RowSorted k) : scattered k v = result k v := by
  have hk : ∀ n : Fin 19267584, (k (.ofFin n)).toNat < 2 ^ 31 := fun n => by
    have h1 := h.row n
    have h2 := n.isLt
    omega
  funext q
  obtain ⟨p, rfl⟩ := idx_ofFin q
  by_cases hex : ∃ n : Fin 19267584, (k (.ofFin n)).toNat = p.val
  · obtain ⟨n, hn, hlast⟩ := Order.exists_last _ hex
    refine (LastWrite.scatter_last _ _ _ _ _ (.ofFin n) ((lands_iff hk n p).2 hn) fun j hj => ?_).trans (h.result_hit (.ofFin p) n hn hlast).symm
    obtain ⟨j, rfl⟩ := idx_ofFin j
    rw [Ne, lands_iff hk]
    rw [Fin.lt_def, Shape.rowMajor_val_one, Shape.rowMajor_val_one] at hj
    exact hlast j (Fin.lt_def.2 hj)
  · refine (scatter_set_miss _ _ _ _ _ fun j => ?_).trans (h.result_miss (.ofFin p) fun n hn => hex ⟨n, hn⟩).symm
    obtain ⟨j, rfl⟩ := idx_ofFin j
    rw [Ne, lands_iff hk]
    exact fun hn => hex ⟨j, hn⟩

end Cert.Proof.Unpool
-- ==== Proof.Frames.lean ====
/- The frames, and the kernel's value against the scatter that takes its updates in the sort's order. -/
module

public import proofs.«01_k».proof.Proof.InOrder
public import proofs.«01_k».proof.Proof.Gen.Kernel
public import proofs.«01_k».proof.Proof.Gen.ReferenceIdeal.Run

@[expose] public section

noncomputable section

namespace Cert.Proof.Unpool

open Idealize.ShloMosaic Idealize.SL.Sem
open Cert.KernelIdeal.Gen Cert.Kernel.Gen Cert.Pre_in_range.Gen Cert.Pre_reads_back.Gen Cert.ReferenceIdeal.Gen Cert.InOrderIdeal.Gen

/-- The kernel at the machine's floats terminates with its arguments unchanged and every semaphore at zero, on indices in range. -/
theorem frame_kernel : Cert.quiescent_Kernel := fun m ρ hp =>
  (θ_run Cert.Kernel.defs _ _).mono (fun _ h => ⟨fun c => (h.1 c).2, h.2⟩)
    (run_main (F := Bits) m ρ fun d => inRows m d (inPlane_of_in_range _ _ (hp d)))

/-- The same of the idealized kernel, -/
theorem frame_ideal : Cert.quiescent_KernelIdeal := fun m ρ hp =>
  (θ_run Cert.KernelIdeal.defs _ _).mono (fun _ h => ⟨fun c => (h.1 c).2, h.2⟩)
    (run_main (F := Ideal) m ρ fun d => inRows m d (inPlane_of_in_range _ _ (hp d)))

/-- of the reference, on any arguments, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and of the scatter in the sort's order. -/
theorem frame_in_order : Cert.quiescent_InOrderIdeal := fun m ρ _ =>
  (θ_run Cert.InOrderIdeal.defs _ _).mono (fun r h => ⟨fun c => (h c).2, sem_eq_zero_of_no_sems (by decide) r.2⟩)
    (Cert.InOrderIdeal.Value.run (F := Ideal) m ρ)

/-- On indices in range the kernel's result is the scatter's, its updates taken in the order of the sort. -/
theorem value_in_order : Cert.algebraic_KernelIdeal_InOrderIdeal := fun m ρ m' ρ' hp hm => by
  have hin : ∀ d, InPlane (argI m d) := fun d => inPlane_of_in_range _ _ (hp d)
  refine ⟨fun c => shapeCast _ (drawing m c) Cert.KernelIdeal.Gen.shapeCasts_S77070336_S2x768x224x224,
    (θ_run Cert.KernelIdeal.defs _ _).mono (fun _ h => h.1) (run_main (F := Ideal) m ρ fun d => inRows m d (hin d)),
    (θ_run Cert.InOrderIdeal.defs _ _).mono (fun r h c => ⟨(h c).1.trans ?_, (h c).2⟩) (Cert.InOrderIdeal.Value.run (F := Ideal) m' ρ')⟩
  obtain ⟨σ, _, _, hs⟩ := sorted_reads (argX m c) (hin c)
  rw [(hm c).1, (hm c).2]
  refine congrArg (fun f => shapeCast Cert.KernelIdeal.S2x768x224x224 f Cert.KernelIdeal.Gen.shapeCasts_S77070336_S2x768x224x224) ?_
  unfold drawing
  rw [keys_eq, vals_eq, ← hs.scattered_eq]
  rfl

end Cert.Proof.Unpool
-- ==== Proof.Verbatim.lean ====
/- The kernel's value against the reference as it stands, on inputs its result reads back. -/
module

public import proofs.«01_k».proof.Proof.ReadBack
public import proofs.«01_k».proof.Proof.Frames

@[expose] public section

noncomputable section

namespace Cert.Proof.Unpool

open Cert.KernelIdeal Cert.KernelIdeal.Gen
open Idealize.ShloMosaic Idealize.ShloMosaic.Routing Idealize.SL.Sem
open Idealize.ShloMosaic.StableHlo.Predicate (ij ixP)

variable {F : FTy → Type} [FloatOps F]

/-- At a place of a plane that no entry of its row names, the reference's plane holds zero. -/
theorem planes_miss (x : S1536x12544.Idx → F .f32) (f : IVec S1536x12544 32) (hf : ∀ j, (f j).toNat < 50176) (r : Fin 1536) (q : Fin 50176)
    (hno : ∀ c : Fin 12544, (f (ij r c)).toNat ≠ q.val) : planes x f (ij r q) = zero := by
  unfold planes
  rw [scatter_set_miss]
  · rfl
  · intro k hk
    obtain ⟨a, b, rfl⟩ : ∃ (a : Fin 1536) (b : Fin 12544), k = ValueIdx.ix2 a b := ⟨_, _, ValueIdx.eq_ix2 k⟩
    have hl := (scatter_lands2 Cert.ReferenceIdeal.scatter_S1536x50176_S1536x12544x2_S1536x12544_n_01_01_2 rfl rfl rfl (pairs f) a b r q).1 hk
    rw [pairs_row, pairs_col _ _ _ (hf _)] at hl
    obtain rfl : a = r := Fin.ext (by omega)
    exact hno b (by omega)

/-- Where the reference's planes read back, they are what the kernel draws from the sorted keys, whatever order the sort gives equal keys. -/
theorem result_eq (x : S2x768x112x112.Idx → F .f32) (i : S2x768x112x112.Idx → BitVec 32) (hi : InPlane i)
    (hb : ∀ (r : Fin 1536) (c : Fin 12544), planes (rows x) (rows i) (ij r ⟨(rows i (ij r c)).toNat, hi.rows _⟩) = rows x (ij r c))
    (h : Cert.ReferenceIdeal.S1536x50176.ShapeCasts S77070336) :
    result (sortedKeys x i) (sortedVals x i) = shapeCast S77070336 (planes (rows x) (rows i)) h := by
  obtain ⟨σ, hk, hv, hs⟩ := sorted_reads x hi
  funext j
  obtain ⟨p, rfl⟩ := idx_ofFin j
  have hp := p.isLt
  have hq : p.val % 50176 < 50176 := Nat.mod_lt _ (by decide)
  rw [shapeCast_apply (planes (rows x) (rows i)) h (.ofFin p) (ij (⟨p.val / 50176, by omega⟩ : Fin 1536) ⟨p.val % 50176, hq⟩) (by
    rw [Shape.rowMajor_val_two, Shape.rowMajor_val_one]
    show p.val / 50176 * 50176 + p.val % 50176 = p.val
    omega)]
  by_cases hn : ∃ n : Fin 19267584, (sortedKeys x i (.ofFin n)).toNat = p.val
  · obtain ⟨n, hn, hl⟩ := Order.exists_last _ hn
    rw [hs.result_hit (.ofFin p) n hn hl, hv, inputs_apply, ← hb]
    have e := places_toNat hi (σ n)
    rw [← hk, hn] at e
    have h1 := hi.rows (ij (rowOf (σ n)) (colOf (σ n)))
    exact congrArg₂ (fun a b => planes (rows x) (rows i) (ij a b)) (Fin.ext (by show (σ n).val / 12544 = p.val / 50176; omega))
      (Fin.ext (by show (rows i (ij (rowOf (σ n)) (colOf (σ n)))).toNat = p.val % 50176; omega))
  · have hno : ∀ n : Fin 19267584, (sortedKeys x i (.ofFin n)).toNat ≠ p.val := fun n e => hn ⟨n, e⟩
    rw [hs.result_miss (.ofFin p) hno, planes_miss _ _ hi.rows]
    intro c hc
    have hc' := c.isLt
    generalize hjj : p.val / 50176 * 12544 + c.val = jj
    have hjlt : jj < 19267584 := by omega
    have e := places_toNat hi ⟨jj, hjlt⟩
    have e1 : rowOf ⟨jj, hjlt⟩ = ⟨p.val / 50176, by omega⟩ := Fin.ext (by show jj / 12544 = p.val / 50176; omega)
    have e2 : colOf ⟨jj, hjlt⟩ = c := Fin.ext (by show jj % 12544 = c.val; omega)
    rw [e1, e2, hc] at e
    refine hno (σ.symm ⟨jj, hjlt⟩) ?_
    rw [hk, Equiv.apply_symm_apply, e]
    show p.val % 50176 + jj / 12544 * 50176 = p.val
    omega

/-- The idealized kernel's frame, on inputs its result reads back, -/
theorem frame_ideal_reads_back : Cert.quiescent_KernelIdeal_pre_reads_back := fun m ρ hp =>
  (θ_run Cert.KernelIdeal.defs _ _).mono (fun _ h => ⟨fun c => (h.1 c).2, h.2⟩)
    (run_main (F := Ideal) m ρ fun d => inRows m d (of_reads_back _ _ (hp d)).1)

/-- the reference's, -/
theorem frame_reference_reads_back : Cert.quiescent_ReferenceIdeal_pre_reads_back := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and there the kernel's result is the reference's. -/
theorem value_reference : Cert.algebraic_KernelIdeal_ReferenceIdeal_pre_reads_back := fun m ρ m' ρ' hp hm => by
  have hin : ∀ d, InPlane (argI m d) := fun d => (of_reads_back _ _ (hp d)).1
  refine ⟨fun c => shapeCast _ (drawing m c) Cert.KernelIdeal.Gen.shapeCasts_S77070336_S2x768x224x224,
    (θ_run Cert.KernelIdeal.defs _ _).mono (fun _ h => h.1) (run_main (F := Ideal) m ρ fun d => inRows m d (hin d)),
    (θ_run Cert.ReferenceIdeal.defs _ _).mono (fun r h c => ⟨(h c).1.trans ?_, (h c).2⟩) (Cert.ReferenceIdeal.Value.run (F := Ideal) m' ρ')⟩
  have hc : Cert.ReferenceIdeal.S1536x50176.ShapeCasts S77070336 := by decide
  obtain ⟨hi, hb⟩ := of_reads_back (argX m c) (argI m c) (hp c)
  have e : drawing m c = shapeCast S77070336 (planes (rows (argX m c)) (rows (argI m c))) hc := by
    unfold drawing
    rw [keys_eq, vals_eq, result_eq (argX m c) (argI m c) hi hb hc]
  rw [(hm c).1, (hm c).2]
  show _ = shapeCast Cert.KernelIdeal.S2x768x224x224 (drawing m c) _
  rw [e, shapeCast_comp]
  rfl

end Cert.Proof.Unpool
-- ==== Proof.lean ====
/- The claim: the frames, and the two value claims, put together. -/
module

public import proofs.«01_k».proof.Defs
public import proofs.«01_k».proof.Proof.Verbatim

@[expose] public section

namespace Cert.Proof

open Cert.Proof.Unpool

/-- Every program terminates with its arguments unchanged and its semaphores at zero; the idealized kernel is the kernel; and its result is the
    scatter's in the sort's order on indices in range, and the reference's where that reads back. -/
theorem claim : Cert.Claim :=
  ⟨Cert.Kernel.Gen.facts, Cert.KernelIdeal.Gen.facts, Cert.ReferenceIdeal.Gen.facts, Cert.InOrderIdeal.Gen.facts, Cert.Pre_in_range.Gen.facts,
    Cert.Pre_reads_back.Gen.facts, frame_kernel, frame_ideal, frame_ideal_reads_back, frame_reference, frame_reference_reads_back, frame_in_order,
    trivial, value_in_order, value_reference⟩

end Cert.Proof

end
